-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 1024, 16, 128]⟩ ⟨4, ![4, 1024, 32, 128]⟩ (Layout.meshBlock [2, 2, 2] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 4096]⟩ ⟨2, ![4096, 4096]⟩ (Layout.meshBlock [2, 2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨3, ![4, 512, 4096]⟩ ⟨3, ![4, 1024, 4096]⟩ (Layout.meshBlock [2, 2, 2] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x16x128 : Shape := ⟨4, ![4, 1024, 16, 128]⟩
abbrev S2048x4096 : Shape := ⟨2, ![2048, 4096]⟩
abbrev S4x512x4096 : Shape := ⟨3, ![4, 512, 4096]⟩
abbrev S2x256x2048 : Shape := ⟨3, ![2, 256, 2048]⟩
abbrev S2x256x4096 : Shape := ⟨3, ![2, 256, 4096]⟩
abbrev S8x256x4096 : Shape := ⟨3, ![8, 256, 4096]⟩
abbrev S2 : Shape := ⟨1, ![2]⟩
abbrev S8 : Shape := ⟨1, ![8]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩
abbrev S4x1024x2048 : Shape := ⟨3, ![4, 1024, 2048]⟩
abbrev S256x4096 : Shape := ⟨2, ![256, 4096]⟩
abbrev S1x256x4096 : Shape := ⟨3, ![1, 256, 4096]⟩

abbrev nBuf : Space → Nat
  | .hbm => 5
  | .vmem => 5
  | .smem => 0
  | _ => 0

abbrev bufTy : (tb : Table) → Fin (tcTables nBuf tb) → BufTy
  | .hbm, ⟨0, _⟩ => ⟨S4x1024x16x128, .f32⟩
  | .hbm, ⟨1, _⟩ => ⟨S2048x4096, .f32⟩
  | .hbm, ⟨2, _⟩ => ⟨S2048x4096, .bf16⟩
  | .hbm, ⟨3, _⟩ => ⟨S4x512x4096, .bf16⟩
  | .hbm, ⟨4, _⟩ => ⟨S4x512x4096, .f32⟩
  | .local _ .vmem, ⟨0, _⟩ => ⟨S2048x4096, .bf16⟩
  | .local _ .vmem, ⟨1, _⟩ => ⟨S2x256x2048, .f32⟩
  | .local _ .vmem, ⟨2, _⟩ => ⟨S2x256x4096, .bf16⟩
  | .local _ .vmem, ⟨3, _⟩ => ⟨S8x256x4096, .bf16⟩
  | .local _ .vmem, ⟨4, _⟩ => ⟨S2x256x4096, .bf16⟩
  | _, _ => ⟨S4x1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_6 : BitVec 32 := 4#32
  let v13 : BitVec 32 := Scalar.muli v9 c4_i32_6
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v15 : BitVec 32 := Scalar.muli v5 c2_i32_7
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v17 : BitVec 32 := Scalar.muli v8 c1_i32_8
  let v18 : BitVec 32 := Scalar.addi v16 v17
  v18.toNat
def k0_off1 (d0 : Dev nD) (c0_i32_10 : BitVec 32) : Fin 3 → Nat :=
  let c0_i32_11 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c512_i32_4 : BitVec 32 := 512#32
  let v11 : BitVec 32 := Scalar.muli v9 c512_i32_4
  let v19 : BitVec 32 := Scalar.addi v11 c0_i32_10
  let c0_i32_16 : BitVec 32 := 0#32
  ![0, v19.toNat, 0]
def k0_dev2 (d0 : Dev nD) : Nat :=
  let c0_i32_42 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_41 : BitVec 32 := 4#32
  let v53 : BitVec 32 := Scalar.muli v9 c4_i32_41
  let v54 : BitVec 32 := Scalar.addi c0_i32_42 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v55 : BitVec 32 := Scalar.muli v5 c2_i32_43
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v57 : BitVec 32 := Scalar.muli v8 c1_i32_44
  let v58 : BitVec 32 := Scalar.addi v56 v57
  v58.toNat
def k0_off2 (d0 : Dev nD) (c0_i32_56 : BitVec 32) : Fin 3 → Nat :=
  let c1_i32_57 : BitVec 32 := 1#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c512_i32_4 : BitVec 32 := 512#32
  let v11 : BitVec 32 := Scalar.muli v9 c512_i32_4
  let v75 : BitVec 32 := Scalar.addi v11 c0_i32_56
  let c0_i32_62 : BitVec 32 := 0#32
  ![1, v75.toNat, 0]
def k0_dev3 (d0 : Dev nD) : Nat :=
  let c0_i32_76 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_75 : BitVec 32 := 4#32
  let v93 : BitVec 32 := Scalar.muli v9 c4_i32_75
  let v94 : BitVec 32 := Scalar.addi c0_i32_76 v93
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v95 : BitVec 32 := Scalar.muli v5 c2_i32_77
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_78 : BitVec 32 := 1#32
  let v97 : BitVec 32 := Scalar.muli v8 c1_i32_78
  let v98 : BitVec 32 := Scalar.addi v96 v97
  v98.toNat
def k0_dev4 (d0 : Dev nD) : Nat :=
  let c0_i32_120 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_119 : BitVec 32 := 4#32
  let v139 : BitVec 32 := Scalar.muli v9 c4_i32_119
  let v140 : BitVec 32 := Scalar.addi c0_i32_120 v139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_121 : BitVec 32 := 2#32
  let v141 : BitVec 32 := Scalar.muli v5 c2_i32_121
  let v142 : BitVec 32 := Scalar.addi v140 v141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v143 : BitVec 32 := Scalar.muli v8 c1_i32_122
  let v144 : BitVec 32 := Scalar.addi v142 v143
  v144.toNat
def k0_off3 (d0 : Dev nD) (c0_i32_134 : BitVec 32) : Fin 3 → Nat :=
  let c2_i32_135 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c512_i32_4 : BitVec 32 := 512#32
  let v11 : BitVec 32 := Scalar.muli v9 c512_i32_4
  let v161 : BitVec 32 := Scalar.addi v11 c0_i32_134
  let c0_i32_140 : BitVec 32 := 0#32
  ![2, v161.toNat, 0]
def k0_dev5 (d0 : Dev nD) : Nat :=
  let c0_i32_163 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_162 : BitVec 32 := 4#32
  let v185 : BitVec 32 := Scalar.muli v9 c4_i32_162
  let v186 : BitVec 32 := Scalar.addi c0_i32_163 v185
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_164 : BitVec 32 := 2#32
  let v187 : BitVec 32 := Scalar.muli v5 c2_i32_164
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_165 : BitVec 32 := 1#32
  let v189 : BitVec 32 := Scalar.muli v8 c1_i32_165
  let v190 : BitVec 32 := Scalar.addi v188 v189
  v190.toNat
def k0_dev6 (d0 : Dev nD) : Nat :=
  let c0_i32_207 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_206 : BitVec 32 := 4#32
  let v231 : BitVec 32 := Scalar.muli v9 c4_i32_206
  let v232 : BitVec 32 := Scalar.addi c0_i32_207 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v233 : BitVec 32 := Scalar.muli v5 c2_i32_208
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v235 : BitVec 32 := Scalar.muli v8 c1_i32_209
  let v236 : BitVec 32 := Scalar.addi v234 v235
  v236.toNat
def k0_off4 (d0 : Dev nD) (c0_i32_221 : BitVec 32) : Fin 3 → Nat :=
  let c3_i32_222 : BitVec 32 := 3#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c512_i32_4 : BitVec 32 := 512#32
  let v11 : BitVec 32 := Scalar.muli v9 c512_i32_4
  let v253 : BitVec 32 := Scalar.addi v11 c0_i32_221
  let c0_i32_227 : BitVec 32 := 0#32
  ![3, v253.toNat, 0]
def k0_dev7 (d0 : Dev nD) : Nat :=
  let c0_i32_250 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_249 : BitVec 32 := 4#32
  let v277 : BitVec 32 := Scalar.muli v9 c4_i32_249
  let v278 : BitVec 32 := Scalar.addi c0_i32_250 v277
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_251 : BitVec 32 := 2#32
  let v279 : BitVec 32 := Scalar.muli v5 c2_i32_251
  let v280 : BitVec 32 := Scalar.addi v278 v279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v281 : BitVec 32 := Scalar.muli v8 c1_i32_252
  let v282 : BitVec 32 := Scalar.addi v280 v281
  v282.toNat
def k0_dev8 (d0 : Dev nD) : Nat :=
  let c0_i32_293 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_292 : BitVec 32 := 4#32
  let v323 : BitVec 32 := Scalar.muli v9 c4_i32_292
  let v324 : BitVec 32 := Scalar.addi c0_i32_293 v323
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_294 : BitVec 32 := 2#32
  let v325 : BitVec 32 := Scalar.muli v5 c2_i32_294
  let v326 : BitVec 32 := Scalar.addi v324 v325
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_295 : BitVec 32 := 1#32
  let v327 : BitVec 32 := Scalar.muli v8 c1_i32_295
  let v328 : BitVec 32 := Scalar.addi v326 v327
  v328.toNat
def k0_off5 (d0 : Dev nD) (c0_i32_307 : BitVec 32) : Fin 3 → Nat :=
  let c0_i32_308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v10 : BitVec 32 := Scalar.muli v2 c512_i32
  let v345 : BitVec 32 := Scalar.addi v10 c0_i32_307
  let c0_i32_313 : BitVec 32 := 0#32
  ![0, v345.toNat, 0]
def k0_dev9 (d0 : Dev nD) : Nat :=
  let c0_i32_336 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_335 : BitVec 32 := 4#32
  let v369 : BitVec 32 := Scalar.muli v9 c4_i32_335
  let v370 : BitVec 32 := Scalar.addi c0_i32_336 v369
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_337 : BitVec 32 := 2#32
  let v371 : BitVec 32 := Scalar.muli v5 c2_i32_337
  let v372 : BitVec 32 := Scalar.addi v370 v371
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_338 : BitVec 32 := 1#32
  let v373 : BitVec 32 := Scalar.muli v8 c1_i32_338
  let v374 : BitVec 32 := Scalar.addi v372 v373
  v374.toNat
def k0_off6 (d0 : Dev nD) (c0_i32_395 : BitVec 32) : Fin 3 → Nat :=
  let c1_i32_396 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v10 : BitVec 32 := Scalar.muli v2 c512_i32
  let v439 : BitVec 32 := Scalar.addi v10 c0_i32_395
  let c0_i32_401 : BitVec 32 := 0#32
  ![1, v439.toNat, 0]
def k0_off7 (d0 : Dev nD) (c0_i32_491 : BitVec 32) : Fin 3 → Nat :=
  let c2_i32_492 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v10 : BitVec 32 := Scalar.muli v2 c512_i32
  let v541 : BitVec 32 := Scalar.addi v10 c0_i32_491
  let c0_i32_497 : BitVec 32 := 0#32
  ![2, v541.toNat, 0]
def k0_off8 (d0 : Dev nD) (c0_i32_593 : BitVec 32) : Fin 3 → Nat :=
  let c3_i32_594 : BitVec 32 := 3#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v10 : BitVec 32 := Scalar.muli v2 c512_i32
  let v649 : BitVec 32 := Scalar.addi v10 c0_i32_593
  let c0_i32_599 : BitVec 32 := 0#32
  ![3, v649.toNat, 0]
abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x1024x32x128 : Shape := ⟨4, ![4, 1024, 32, 128]⟩
abbrev S4096x4096 : Shape := ⟨2, ![4096, 4096]⟩
abbrev S4x1024x4096 : Shape := ⟨3, ![4, 1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x32x128, .f32⟩
  | .hbm, ⟨1, _⟩ => ⟨S4096x4096, .f32⟩
  | .hbm, ⟨2, _⟩ => ⟨S4x1024x4096, .f32⟩
  | .hbm, ⟨3, _⟩ => ⟨S4x1024x4096, .f32⟩
  | _, _ => ⟨S4x1024x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
/- The kernel's body written with its sixteen chunks indexed: the memory references, semaphores and steps as families over
   the chunk and the buffer slot, and the proof that the printed body is the sequence of these steps. -/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdeal.Hand

open Idealize.ShloMosaic Idealize.SL.Sem
open Cert.KernelIdeal Cert.KernelIdeal.Gen

variable {F : FTy → Type} [FloatOps F]

/-! ## Memory references -/

/-- The activations' array, its heads and head dimension flattened. -/
abbrev actM : Memref sig .tc .hbm S4x1024x2048 .f32 :=
  (Memref.whole main_arg0).reshape S4x1024x2048 reshapes_S4x1024x16x128_S4x1024x2048.1 reshapes_S4x1024x16x128_S4x1024x2048.2
    (Memref.isWhole_whole main_arg0).contiguous

/-- Where chunk `i` of device `c`'s activations starts: first the eight chunks of the other half of the rows, then the
    eight of the own half. -/
def offA (c : Dev nD) (i : Fin 16) : Fin 3 → Nat :=
  ![k0_off1 c 0#32, k0_off1 c 256#32, k0_off2 c 0#32, k0_off2 c 256#32, k0_off3 c 0#32, k0_off3 c 256#32, k0_off4 c 0#32, k0_off4 c 256#32,
    k0_off5 c 0#32, k0_off5 c 256#32, k0_off6 c 0#32, k0_off6 c 256#32, k0_off7 c 0#32, k0_off7 c 256#32, k0_off8 c 0#32, k0_off8 c 256#32] i

theorem offA_inb (c : Dev nD) (i : Fin 16) : ∀ a, offA c i a + S1x256x2048.size a ≤ S4x1024x2048.size a := by
  fin_cases i
  exacts [k0_off1_inb c 0, k0_off1_inb c 1, k0_off2_inb c 0, k0_off2_inb c 1, k0_off3_inb c 0, k0_off3_inb c 1, k0_off4_inb c 0, k0_off4_inb c 1,
    k0_off5_inb c 0, k0_off5_inb c 1, k0_off6_inb c 0, k0_off6_inb c 1, k0_off7_inb c 0, k0_off7_inb c 1, k0_off8_inb c 0, k0_off8_inb c 1]

/-- Chunk `i` of the activations. -/
abbrev srcM (c : Dev nD) (i : Fin 16) : Memref sig .tc .hbm S256x2048 .f32 :=
  (actM.slice (Rect.unit (s := S4x1024x2048) (offA c i) S1x256x2048.size (offA_inb c i)) (fun _ => rfl)).squeeze S256x2048 squeezes_S1x256x2048_S256x2048

theorem act_inb : ∀ j : Fin 2, ∀ a, (![j.val, 0, 0] : Fin 3 → Nat) a + S1x256x2048.size a ≤ S2x256x2048.size a := by decide
theorem pair_inb : ∀ j : Fin 2, ∀ a, (![j.val, 0, 0] : Fin 3 → Nat) a + S1x256x4096.size a ≤ S2x256x4096.size a := by decide
theorem recv_inb : ∀ k : Fin 8, ∀ a, (![k.val, 0, 0] : Fin 3 → Nat) a + S1x256x4096.size a ≤ S8x256x4096.size a := by decide
theorem two_inb : ∀ j : Fin 2, ∀ a, (![j.val] : Fin 1 → Nat) a + S1.size a ≤ S2.size a := by decide
theorem eight_inb : ∀ k : Fin 8, ∀ a, (![k.val] : Fin 1 → Nat) a + S1.size a ≤ S8.size a := by decide

/-- Where block `k` of the result starts. -/
def offR (k : Fin 8) : Fin 3 → Nat := ![k.val / 2, 256 * (k.val % 2), 0]
theorem res_inb : ∀ k : Fin 8, ∀ a, offR k a + S1x256x4096.size a ≤ S4x512x4096.size a := by decide

abbrev actR (j : Fin 2) : Rect S2x256x2048 := Rect.unit (s := S2x256x2048) ![j.val, 0, 0] S1x256x2048.size (act_inb j)
abbrev pairR (j : Fin 2) : Rect S2x256x4096 := Rect.unit (s := S2x256x4096) ![j.val, 0, 0] S1x256x4096.size (pair_inb j)
abbrev recvR (k : Fin 8) : Rect S8x256x4096 := Rect.unit (s := S8x256x4096) ![k.val, 0, 0] S1x256x4096.size (recv_inb k)
abbrev resR (k : Fin 8) : Rect S4x512x4096 := Rect.unit (s := S4x512x4096) (offR k) S1x256x4096.size (res_inb k)

/-- The two slots for the chunk fetched, the two for the product to send, the eight for the products received, the two for
    the sums; and the eight blocks of the result. -/
abbrev actS (j : Fin 2) : Memref sig .tc .vmem S256x2048 .f32 :=
  ((Memref.whole cc0_scratch0).slice (actR j) (fun _ => rfl)).squeeze S256x2048 squeezes_S1x256x2048_S256x2048
abbrev sendS (j : Fin 2) : Memref sig .tc .vmem S256x4096 .bf16 :=
  ((Memref.whole cc0_scratch1).slice (pairR j) (fun _ => rfl)).squeeze S256x4096 squeezes_S1x256x4096_S256x4096
abbrev recvS (k : Fin 8) : Memref sig .tc .vmem S256x4096 .bf16 :=
  ((Memref.whole cc0_scratch2).slice (recvR k) (fun _ => rfl)).squeeze S256x4096 squeezes_S1x256x4096_S256x4096
abbrev sumS (j : Fin 2) : Memref sig .tc .vmem S256x4096 .bf16 :=
  ((Memref.whole cc0_scratch3).slice (pairR j) (fun _ => rfl)).squeeze S256x4096 squeezes_S1x256x4096_S256x4096
abbrev resS (k : Fin 8) : Memref sig .tc .hbm S256x4096 .bf16 :=
  ((Memref.whole main_v2).slice (resR k) (fun _ => rfl)).squeeze S256x4096 squeezes_S1x256x4096_S256x4096

/-! Each is made of whole words. -/
theorem send_words : ∀ j : Fin 2, (sendS j).view.WordExact
  | 0 => ((Memref.isWhole_whole cc0_scratch1).wordExact_slice rfl _ wordsbf16_S2x256x4096_S1x256x4096_0_0_0).reshape _ _
  | 1 => ((Memref.isWhole_whole cc0_scratch1).wordExact_slice rfl _ wordsbf16_S2x256x4096_S1x256x4096_1_0_0).reshape _ _
theorem sum_words : ∀ j : Fin 2, (sumS j).view.WordExact
  | 0 => ((Memref.isWhole_whole cc0_scratch3).wordExact_slice rfl _ wordsbf16_S2x256x4096_S1x256x4096_0_0_0).reshape _ _
  | 1 => ((Memref.isWhole_whole cc0_scratch3).wordExact_slice rfl _ wordsbf16_S2x256x4096_S1x256x4096_1_0_0).reshape _ _
theorem recv_words : ∀ k : Fin 8, (recvS k).view.WordExact
  | 0 => ((Memref.isWhole_whole cc0_scratch2).wordExact_slice rfl _ wordsbf16_S8x256x4096_S1x256x4096_0_0_0).reshape _ _
  | 1 => ((Memref.isWhole_whole cc0_scratch2).wordExact_slice rfl _ wordsbf16_S8x256x4096_S1x256x4096_1_0_0).reshape _ _
  | 2 => ((Memref.isWhole_whole cc0_scratch2).wordExact_slice rfl _ wordsbf16_S8x256x4096_S1x256x4096_2_0_0).reshape _ _
  | 3 => ((Memref.isWhole_whole cc0_scratch2).wordExact_slice rfl _ wordsbf16_S8x256x4096_S1x256x4096_3_0_0).reshape _ _
  | 4 => ((Memref.isWhole_whole cc0_scratch2).wordExact_slice rfl _ wordsbf16_S8x256x4096_S1x256x4096_4_0_0).reshape _ _
  | 5 => ((Memref.isWhole_whole cc0_scratch2).wordExact_slice rfl _ wordsbf16_S8x256x4096_S1x256x4096_5_0_0).reshape _ _
  | 6 => ((Memref.isWhole_whole cc0_scratch2).wordExact_slice rfl _ wordsbf16_S8x256x4096_S1x256x4096_6_0_0).reshape _ _
  | 7 => ((Memref.isWhole_whole cc0_scratch2).wordExact_slice rfl _ wordsbf16_S8x256x4096_S1x256x4096_7_0_0).reshape _ _
theorem res_words : ∀ k : Fin 8, (resS k).view.WordExact
  | 0 => ((Memref.isWhole_whole main_v2).wordExact_slice rfl _ wordsbf16_S4x512x4096_S1x256x4096_0_0_0).reshape _ _
  | 1 => ((Memref.isWhole_whole main_v2).wordExact_slice rfl _ wordsbf16_S4x512x4096_S1x256x4096_0_256_0).reshape _ _
  | 2 => ((Memref.isWhole_whole main_v2).wordExact_slice rfl _ wordsbf16_S4x512x4096_S1x256x4096_1_0_0).reshape _ _
  | 3 => ((Memref.isWhole_whole main_v2).wordExact_slice rfl _ wordsbf16_S4x512x4096_S1x256x4096_1_256_0).reshape _ _
  | 4 => ((Memref.isWhole_whole main_v2).wordExact_slice rfl _ wordsbf16_S4x512x4096_S1x256x4096_2_0_0).reshape _ _
  | 5 => ((Memref.isWhole_whole main_v2).wordExact_slice rfl _ wordsbf16_S4x512x4096_S1x256x4096_2_256_0).reshape _ _
  | 6 => ((Memref.isWhole_whole main_v2).wordExact_slice rfl _ wordsbf16_S4x512x4096_S1x256x4096_3_0_0).reshape _ _
  | 7 => ((Memref.isWhole_whole main_v2).wordExact_slice rfl _ wordsbf16_S4x512x4096_S1x256x4096_3_256_0).reshape _ _
theorem pair_packed : ∀ j : Fin 2, (pairR j).PackedRows (EltTy.packing .bf16)
  | 0 => packedbf16_S2x256x4096_S1x256x4096_0_0_0
  | 1 => packedbf16_S2x256x4096_S1x256x4096_1_0_0

/-! ## Semaphores -/

abbrev actQ (j : Fin 2) : DmaSem sig := ((cc0_scratch4.slice (Rect.unit (s := S2) ![j.val] S1.size (two_inb j))).squeeze S_ squeezes_S1_S_).sem
abbrev sendQ (k : Fin 8) : DmaSem sig := ((cc0_scratch5.slice (Rect.unit (s := S8) ![k.val] S1.size (eight_inb k))).squeeze S_ squeezes_S1_S_).sem
abbrev recvQ (k : Fin 8) : DmaSem sig := ((cc0_scratch6.slice (Rect.unit (s := S8) ![k.val] S1.size (eight_inb k))).squeeze S_ squeezes_S1_S_).sem
abbrev sumQ (j : Fin 2) : DmaSem sig := ((cc0_scratch7.slice (Rect.unit (s := S2) ![j.val] S1.size (two_inb j))).squeeze S_ squeezes_S1_S_).sem
abbrev barQ : Sem sig := (SemArray.scalar (sig.barrier 0 rfl) : Sems sig S_).sem

/-! ## The other device -/

/-- The device whose first mesh coordinate is the other one. -/
def pr (c : Dev nD) : Dev nD := ⟨(c.val + 4) % 8, Nat.mod_lt _ (by decide)⟩
theorem pr_pr : ∀ c : Dev nD, pr (pr c) = c := by decide

/-- The device that chunk `k`'s copy is printed to go to. -/
def dest (c : Dev nD) (k : Fin 8) : Dev nD :=
  ![(⟨k0_dev2 c, k0_dev2_lt c⟩ : Dev nD), ⟨k0_dev3 c, k0_dev3_lt c⟩, ⟨k0_dev4 c, k0_dev4_lt c⟩, ⟨k0_dev5 c, k0_dev5_lt c⟩,
    ⟨k0_dev6 c, k0_dev6_lt c⟩, ⟨k0_dev7 c, k0_dev7_lt c⟩, ⟨k0_dev8 c, k0_dev8_lt c⟩, ⟨k0_dev9 c, k0_dev9_lt c⟩] k

/-! ## The steps, each followed by what comes after it -/

/-- A program of the kernel. -/
abbrev P (F : FTy → Type) : Type 1 := Prog (TpuEff nD τ sig (Elt F) Λ₀ .tc) PUnit

/-- Start fetching chunk `i` into slot `j`. -/
def startFetch (c : Dev nD) (i : Fin 16) (j : Fin 2) (K : P F) : P F :=
  .op (.enqueueDma (srcM c i) (.here (actS j)) (.dma (actQ j)) ((View.wordExact_bits rfl).reshape _ _) ((View.wordExact_bits rfl).reshape _ _) ⟨Or.inl rfl, trivial⟩) fun _ => K

/-- Wait for chunk `i` in slot `j`. -/
def waitFetch (c : Dev nD) (i : Fin 16) (j : Fin 2) (K : P F) : P F :=
  .op (.waitDma2 (actQ j) (srcM c i) (actS j) ((View.wordExact_bits rfl).reshape _ _) ((View.wordExact_bits rfl).reshape _ _)) fun _ => K

/-- Wait for the copy of product `k`, sent from slot `j`. -/
def waitSend (k : Fin 8) (j : Fin 2) (K : P F) : P F :=
  .op (.waitDma2 (sendQ k) (recvS k) (sendS j) (recv_words k) (send_words j)) fun _ => K

/-- Wait for block `k` of the result, written from slot `j`. -/
def waitOut (k : Fin 8) (j : Fin 2) (K : P F) : P F :=
  .op (.waitDma2 (sumQ j) (sumS j) (resS k) (sum_words j) (res_words k)) fun _ => K

/-- Multiply the chunk in slot `j` by the weights, round, and copy the product `k` to device `d`. -/
def sendChunk (d : Dev nD) (k : Fin 8) (j : Fin 2) (K : P F) : P F :=
  .op (.load (Memref.whole cc0_scratch0) (actR j).toLoadRect (View.loadsAt_vmem h_S1x256x2048)) fun v =>
  .op (.load (Memref.whole cc0_stg0_0) (Rect.unit (s := S2048x4096) ![0, 0] S2048x4096.size inb_S2048x4096_S2048x4096_0_0).toLoadRect (View.loadsAt_vmem h_S2048x4096)) fun w =>
  .op (.load (Memref.whole cc0_scratch1) (pairR j).toLoadRect (View.loadsAt_vmem h_S1x256x4096)) fun _ =>
  .op (.store (Memref.whole cc0_scratch1) (pairR j) (k0_pay1 v w) Finset.univ
    (View.stores_vmem h_S1x256x4096 ((Memref.isWhole_whole cc0_scratch1).storeExact_slice rfl _ (pair_packed j)) (fun _ => rfl)) (.inl rfl)) fun _ =>
  .op (.enqueueDma (sendS j) (.remote (Dev.tc d) (recvS k) (.dma (sendQ k))) (.dma (recvQ k)) (send_words j) (recv_words k) ⟨⟨rfl, Or.inl rfl⟩, trivial⟩) fun _ => K

/-- Multiply the chunk in slot `j` by the weights, wait for the product `k` received, add it, round, and start writing block
    `k` of the result. -/
def sumChunk (k : Fin 8) (j : Fin 2) (K : P F) : P F :=
  .op (.load (Memref.whole cc0_scratch0) (actR j).toLoadRect (View.loadsAt_vmem h_S1x256x2048)) fun v =>
  .op (.load (Memref.whole cc0_stg0_0) (Rect.unit (s := S2048x4096) ![0, 0] S2048x4096.size inb_S2048x4096_S2048x4096_0_0).toLoadRect (View.loadsAt_vmem h_S2048x4096)) fun w =>
  .op (.waitDma2 (recvQ k) (sendS j) (recvS k) (send_words j) (recv_words k)) fun _ =>
  .op (.load (Memref.whole cc0_scratch2) (recvR k).toLoadRect (View.loadsAt_vmem h_S1x256x4096)) fun u =>
  .op (.load (Memref.whole cc0_scratch3) (pairR j).toLoadRect (View.loadsAt_vmem h_S1x256x4096)) fun _ =>
  .op (.store (Memref.whole cc0_scratch3) (pairR j) (k0_pay12 (k0_pay11 v w) u) Finset.univ
    (View.stores_vmem h_S1x256x4096 ((Memref.isWhole_whole cc0_scratch3).storeExact_slice rfl _ (pair_packed j)) (fun _ => rfl)) (.inl rfl)) fun _ =>
  .op (.enqueueDma (sumS j) (.here (resS k)) (.dma (sumQ j)) (sum_words j) (res_words k) ⟨Or.inl rfl, trivial⟩) fun _ => K

/-- The sixteen chunks on device `c`. -/
def chunks (c : Dev nD) : P F :=
  startFetch c 0 0 <|
  waitFetch c 0 0 <| startFetch c 1 1 <| sendChunk (dest c 0) 0 0 <|
  waitFetch c 1 1 <| startFetch c 2 0 <| sendChunk (dest c 1) 1 1 <|
  waitFetch c 2 0 <| startFetch c 3 1 <| waitSend 0 0 <| sendChunk (dest c 2) 2 0 <|
  waitFetch c 3 1 <| startFetch c 4 0 <| waitSend 1 1 <| sendChunk (dest c 3) 3 1 <|
  waitFetch c 4 0 <| startFetch c 5 1 <| waitSend 2 0 <| sendChunk (dest c 4) 4 0 <|
  waitFetch c 5 1 <| startFetch c 6 0 <| waitSend 3 1 <| sendChunk (dest c 5) 5 1 <|
  waitFetch c 6 0 <| startFetch c 7 1 <| waitSend 4 0 <| sendChunk (dest c 6) 6 0 <|
  waitFetch c 7 1 <| startFetch c 8 0 <| waitSend 5 1 <| sendChunk (dest c 7) 7 1 <|
  waitFetch c 8 0 <| startFetch c 9 1 <| sumChunk 0 0 <|
  waitFetch c 9 1 <| startFetch c 10 0 <| sumChunk 1 1 <|
  waitFetch c 10 0 <| startFetch c 11 1 <| waitOut 0 0 <| sumChunk 2 0 <|
  waitFetch c 11 1 <| startFetch c 12 0 <| waitOut 1 1 <| sumChunk 3 1 <|
  waitFetch c 12 0 <| startFetch c 13 1 <| waitOut 2 0 <| sumChunk 4 0 <|
  waitFetch c 13 1 <| startFetch c 14 0 <| waitOut 3 1 <| sumChunk 5 1 <|
  waitFetch c 14 0 <| startFetch c 15 1 <| waitOut 4 0 <| sumChunk 6 0 <|
  waitFetch c 15 1 <| waitOut 5 1 <| sumChunk 7 1 <|
  waitSend 6 0 <| waitOut 6 0 <| waitSend 7 1 <| waitOut 7 1 <| .ret ⟨⟩

/-- The whole body: the barrier with the other device, then the chunks. -/
def body : P F :=
  .op .deviceId fun c =>
  .op (.semSignal (Dev.tc (⟨k0_dev1 c, k0_dev1_lt c⟩ : Dev nD)) barQ 1) fun _ =>
  .op (.semWait barQ 1) fun _ => chunks c

set_option maxRecDepth 65536 in
/-- The printed body is `body`. -/
theorem bodyAt0_eq (t : Fin cfg0.N) : bodyAt0 (F := F) t = body := by
  rfl

end Cert.KernelIdeal.Hand

end
-- ==== Proof.Protocol.lean ====
/- How the two devices of a pair talk: the cells, what each step of a device pays to them and takes from them, and the values
   that travel. Device `c` and the device `pr c` whose first mesh coordinate is the other one
   * first tell each other, over the barrier semaphore, that the eight landing slots may be written;
   * then each copies eight products into the other's landing slots. -/
module

public import proofs.«01_k».proof.Proof.Program
public import Idealize.ShloMosaic.Lib.Pipeline.Regions
public import Idealize.ShloMosaic.Lib.Pipeline.Kit
public import Idealize.ShloMosaic.Lib.Pipeline.RegionTalk
public import Idealize.ShloMosaic.Lib.Pipeline.Value
public import Idealize.ShloMosaic.Lib.Rounds
public import Idealize.ShloMosaic.Lib.Transfers
public import Idealize.ShloMosaic.Lib.StableHlo
public import Idealize.ShloMosaic.Lib.Tactic
public import Idealize.ShloMosaic.Lib.ViewIndex
public import Idealize.ShloMosaic.PureOps

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the pipeline's rounds, the talk's rounds, and the local copies' counters -/

abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
def ER : Emb (UR sig nD τ) (MT nD τ sig Unit (Elt F) ℕ UU ℕ) :=
  ((Emb.inl : Emb (UR sig nD τ) (UR sig nD τ × Counters)).trans (Emb.inr : Emb (UR sig nD τ × Counters) UU)).trans
    (uEmb (nD := nD) (sig := sig) (Ix := Unit) (Val := Elt F) (Name := ℕ) (U := UU) (Lvl := ℕ)).toEmb
instance ER_landsIn : (ER : Emb (UR sig nD τ) 𝕄).LandsIn (upEmb : UEmb _ 𝕄) := by unfold ER; infer_instance
abbrev EC : UEmb Counters (MT nD τ sig Unit (Elt F) ℕ UU ℕ) := countersEmb

abbrev 𝒱₀ : Variants := Variants.none

/-! ## Cells -/

abbrev barCell (c : Dev nD) : GSem nD τ sig := ((c : Thread nD τ), .reg barQ)
abbrev sendCell (c : Dev nD) (k : Fin 8) : GSem nD τ sig := ((c : Thread nD τ), .dma (sendQ k))
abbrev recvCell (c : Dev nD) (k : Fin 8) : GSem nD τ sig := ((c : Thread nD τ), .dma (recvQ k))

/-- Which product a semaphore announces as sent, if it is one of these. -/
def sendIx : SemLoc sig → Option (Fin 8)
  | .dma s => if h : 3 ≤ s.val ∧ s.val < 11 then some ⟨s.val - 3, by omega⟩ else none
  | _ => none
/-- Which product a semaphore announces as received, if it is one of these. -/
def recvIx : SemLoc sig → Option (Fin 8)
  | .dma s => if h : 11 ≤ s.val ∧ s.val < 19 then some ⟨s.val - 11, by omega⟩ else none
  | _ => none

theorem sendIx_send : ∀ k : Fin 8, sendIx (.dma (sendQ k)) = some k := by decide
theorem recvIx_send : ∀ k : Fin 8, recvIx (.dma (sendQ k)) = none := by decide
theorem sendIx_recv : ∀ k : Fin 8, sendIx (.dma (recvQ k)) = none := by decide
theorem recvIx_recv : ∀ k : Fin 8, recvIx (.dma (recvQ k)) = some k := by decide
theorem recvIx_act : ∀ j : Fin 2, recvIx (.dma (actQ j)) = none := by decide
theorem recvIx_sum : ∀ j : Fin 2, recvIx (.dma (sumQ j)) = none := by decide
theorem send_ne_bar (k : Fin 8) : (SemLoc.dma (sendQ k) : SemLoc sig) ≠ .reg barQ := fun h => by cases h
theorem recv_ne_bar (k : Fin 8) : (SemLoc.dma (recvQ k) : SemLoc sig) ≠ .reg barQ := fun h => by cases h

/-- The slot that product `k` is sent from. -/
def slotOf (k : Fin 8) : Fin 2 := ⟨k.val % 2, Nat.mod_lt _ (by decide)⟩

/-! ## Assertions about a memory reference -/

section Mem

variable {sp : Space} {s : Shape} {e : EltTy}

/-- Device `c` holds `m` at share `q`, and it reads `v`. -/
def hold (m : Memref sig .tc sp s e) (c : Dev nD) (q : PosShare TreeShare) (v : s.Idx → Elt F e) : sProp 𝕄 :=
  iprop(∃ f : Buf (Elt F) (m.view.loc (c : Thread nD τ)), ⌜m.view.read (Elt F) f = v⌝ ∗ m.view.loc (c : Thread nD τ) ↦[m.view.set]{q} f)

/-- Device `c` holds `m`, whatever it reads. -/
def some' (m : Memref sig .tc sp s e) (c : Dev nD) : sProp 𝕄 :=
  iprop(∃ f : Buf (Elt F) (m.view.loc (c : Thread nD τ)), m.view.loc (c : Thread nD τ) ↦[m.view.set]{fullShare} f)

omit [FloatOps F] in
theorem hold_some (m : Memref sig .tc sp s e) (c : Dev nD) (v : s.Idx → Elt F e) : hold m c fullShare v ⊢ some' m c := by
  unfold hold some'
  iintro ⟨%f, -, H⟩
  iexists f; iexact H

instance hold_storable (m : Memref sig .tc sp s e) (c : Dev nD) (q : PosShare TreeShare) (v : s.Idx → Elt F e) :
    BI.Storable (upEmb : UEmb _ 𝕄) (hold m c q v) := by unfold hold; infer_instance
instance some_storable (m : Memref sig .tc sp s e) (c : Dev nD) :
    BI.Storable (upEmb : UEmb _ 𝕄) (some' m c) := by unfold some'; infer_instance

end Mem

/-! ## The values -/

/-- The activations and the rounded weights of every device. -/
structure Args (F : FTy → Type) where
  act : (c : Dev nD) → Buf (Elt F) ((c : Thread nD τ).loc main_arg0)
  wts : Dev nD → Vec F S2048x4096 .bf16

variable (a : Args F)

/-- Chunk `i` of device `c`'s activations. -/
def chunk (c : Dev nD) (i : Fin 16) : Vec F S256x2048 .f32 := (srcM c i).view.read (Elt F) (a.act c)

/-- A chunk times the weights, as the kernel computes it. -/
def mul (o : Vec F S256x2048 .f32) (w : Vec F S2048x4096 .bf16) : FVec F S256x4096 .f32 :=
  matmul dot_S256x2048_S2048x4096_S256x4096_1_0_0_1_n_n none (truncf .bf16 o bitsLt_bf16_f32)
    (shapeCast S2048x4096 w shapeCasts_S2048x4096_S2048x4096) (constant S256x4096 .f32 0x00000000#32)

/-- The product that device `c` sends as its `k`-th. -/
def sent (c : Dev nD) (k : Fin 8) : FVec F S256x4096 .bf16 :=
  truncf .bf16 (mul (chunk a c (Fin.castLE (by decide) k)) (a.wts c)) bitsLt_bf16_f32

/-- The own product plus the one received from the other device, rounded: block `k` of the result. -/
def result (c : Dev nD) (k : Fin 8) : FVec F S256x4096 .bf16 :=
  truncf .bf16 (addf (mul (chunk a c (Fin.natAdd 8 k)) (a.wts c)) (extf .f32 (sent a (pr c) k) bitsLt_bf16_f32)) bitsLt_bf16_f32

/-! ## The schedule -/

/-- The size of one product's copy. -/
def N : ℕ := (recvS 0).view.dmaCredit
theorem credit_send (j : Fin 2) : (sendS j).view.dmaCredit = N := rfl
theorem credit_recv (k : Fin 8) : (recvS k).view.dmaCredit = N := rfl
theorem N_pos : 0 < N := View.dmaCredit_pos _ (by decide)

/-- Paid to device `c`'s barrier cell: the other device's landing slots, each ready for its one copy. -/
def barPay (c : Dev nD) : sProp 𝕄 :=
  bigSep Finset.univ fun k : Fin 8 => iprop(some' (recvS k) (pr c) ∗ reached ER (recvCell (pr c) k) 0)
/-- Paid when copy `k` has left: the slot it was sent from. -/
def sendPay (c : Dev nD) (k : Fin 8) : sProp 𝕄 := some' (sendS (slotOf k)) c
/-- Paid when copy `k` has landed: the landing slot, holding the other device's product. -/
def recvPay (c : Dev nD) (k : Fin 8) : sProp 𝕄 := hold (recvS k) c fullShare (sent a (pr c) k)

/-- Whether a cell is one of the talk. -/
def talks (g : GSem nD τ sig) : Bool := g.1.2 = .tc && (g.2 = .reg barQ || (sendIx g.2).isSome || (recvIx g.2).isSome)

def pay (g : GSem nD τ sig) : sProp 𝕄 :=
  if g.2 = .reg barQ then barPay g.1.1
  else match sendIx g.2, recvIx g.2 with
    | some k, _ => sendPay g.1.1 k
    | none, some k => recvPay a g.1.1 k
    | none, none => iprop(emp)

/-- One duty, in round 0, on every cell of the talk. -/
def Rd : Rounds.Schedule (GSem nD τ sig) Unit 𝕄 where
  duties g r := if r = 0 ∧ talks g then {()} else ∅
  unitless _ := False
  amount g _ _ := if g.2 = .reg barQ then 1 else N
  payload g _ _ := pay a g
  amount_pos g _ _ _ := by
    by_cases h : g.2 = .reg barQ
    · rw [if_pos h]; exact Nat.one_pos
    · rw [if_neg h]; exact N_pos

instance Rd_storable (g : GSem nD τ sig) (r : ℕ) (d : Unit) : BI.Storable (upEmb : UEmb _ 𝕄) ((Rd a).payload g r d) := by
  show BI.Storable upEmb (pay a g)
  unfold pay barPay sendPay recvPay
  (repeat' split) <;> infer_instance

theorem talks_bar (c : Dev nD) : talks (barCell c) = true := by
  simp [talks]
theorem talks_send (c : Dev nD) (k : Fin 8) : talks (sendCell c k) = true := by
  simp [talks, sendIx_send]
theorem talks_recv (c : Dev nD) (k : Fin 8) : talks (recvCell c k) = true := by
  simp [talks, recvIx_recv]

theorem duties_talk {g : GSem nD τ sig} (h : talks g = true) : (Rd a).duties g 0 = {()} := if_pos ⟨rfl, h⟩
theorem duties_later (g : GSem nD τ sig) : ∀ r, 1 ≤ r → (Rd a).duties g r = ∅ := fun r hr => if_neg fun h => by omega
theorem mem_duties {g : GSem nD τ sig} (h : talks g = true) : () ∈ (Rd a).duties g 0 := by
  rw [duties_talk a h]; exact Finset.mem_singleton_self _

theorem amount_bar (c : Dev nD) (u : Unit) : (Rd a).amount (barCell c) 0 u = 1 := by dsimp only [Rd]; exact if_pos rfl
theorem amount_send (c : Dev nD) (k : Fin 8) (u : Unit) : (Rd a).amount (sendCell c k) 0 u = N := by dsimp only [Rd]; exact if_neg (send_ne_bar k)
theorem amount_recv (c : Dev nD) (k : Fin 8) (u : Unit) : (Rd a).amount (recvCell c k) 0 u = N := by dsimp only [Rd]; exact if_neg (recv_ne_bar k)

theorem expect_talk {g : GSem nD τ sig} (h : talks g = true) : (Rd a).expect g 0 = (Rd a).amount g 0 () := by
  unfold Schedule.expect Schedule.amountOf; rw [duties_talk a h, Finset.sum_singleton]
theorem rest_talk {g : GSem nD τ sig} (h : talks g = true) :
    bigSep ((Rd a).duties g 0 \ ∅) (fun u => (Rd a).payload g 0 u) = pay a g := by
  rw [Finset.sdiff_empty, duties_talk a h, bigSep_singleton]; rfl

theorem pay_bar (c : Dev nD) : pay a (barCell c) = barPay c := if_pos rfl
theorem pay_send (c : Dev nD) (k : Fin 8) : pay a (sendCell c k) = sendPay c k := by
  unfold pay; rw [if_neg (send_ne_bar k)]; simp only [sendIx_send]
theorem pay_recv (c : Dev nD) (k : Fin 8) : pay a (recvCell c k) = recvPay a c k := by
  unfold pay; rw [if_neg (recv_ne_bar k)]; simp only [sendIx_recv, recvIx_recv]

/-! ## What a device owes, and the levels its waits are at -/

/-- What device `c` owes once it has sent its first `n` products: the rest. -/
def owing (c : Dev nD) (n : ℕ) : CellTallies nD τ sig Unit :=
  ∑ k : Fin 8, if n ≤ k.val then tallyAt (recvCell (pr c) k) () N else 0
/-- What it owes at launch: all eight and the barrier's unit. -/
def owed (c : Dev nD) : CellTallies nD τ sig Unit := owing c 0 + tallyAt (barCell (pr c)) () 1

theorem owing_succ (c : Dev nD) (k : Fin 8) :
    owing c k.val = owing c (k.val + 1) + tallyAt (recvCell (pr c) k) () N := by
  unfold owing
  rw [← Finset.sum_erase_add _ _ (Finset.mem_univ k), ← Finset.sum_erase_add (Finset.univ : Finset (Fin 8)) _ (Finset.mem_univ k),
    if_pos le_rfl, if_neg (by omega), add_zero]
  congr 1
  refine Finset.sum_congr rfl fun j hj => ?_
  have : j.val ≠ k.val := fun h => (Finset.mem_erase.mp hj).1 (Fin.ext h)
  by_cases h : k.val ≤ j.val
  · rw [if_pos h, if_pos (by omega)]
  · rw [if_neg h, if_neg (by omega)]
theorem owing_end (c : Dev nD) : owing c 8 = 0 := by
  unfold owing
  exact Finset.sum_eq_zero fun k _ => if_neg (by omega)
theorem owing_pos {c : Dev nD} {n : ℕ} {g : GSem nD τ sig} {u : Unit} (h : 0 < owing c n g u) : ∃ k, g = recvCell (pr c) k := by
  by_contra hn
  refine absurd h (Nat.not_lt.mpr (Nat.le_of_eq ?_))
  unfold owing
  rw [Finset.sum_apply, Finsupp.finset_sum_apply]
  refine Finset.sum_eq_zero fun k _ => ?_
  split
  · rw [tallyAt_apply, if_neg fun h => hn ⟨k, h.1⟩]
  · rfl

def L (g : GSem nD τ sig) : Finset Unit := if g.1.2 = .tc then {()} else ∅
/-- Barrier cells at 1, receive cells at 2, every other at 0. -/
def lv (g : GSem nD τ sig) (_ : Unit) : ℕ := if g.2 = .reg barQ then 1 else if (recvIx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 8) : lv (recvCell c k) () = 2 := by
  unfold lv; rw [if_neg (recv_ne_bar k), recvIx_recv]; rfl
theorem lv_bar (c : Dev nD) : lv (barCell c) () = 1 := if_pos rfl

/-- A DMA semaphore that announces no received product is below the receive cells. -/
theorem lv_low (c : Dev nD) {q : DmaSem sig} (h : recvIx (.dma q) = none) : lv ((c : Thread nD τ), .dma q) () ≤ 1 := by
  unfold lv; rw [if_neg (fun h => by cases h), h]; decide

/-- A device may wait below the receive cells whatever part of its copies it still owes. -/
theorem mayWait (c : Dev nD) (n : ℕ) (sm : SemLoc sig) (h : lv ((c : Thread nD τ), sm) () ≤ 1) :
    (levAts L lv : sProp 𝕄) ⊢ MayWait (c : Thread nD τ) sm () (owing c n) :=
  MayOwe.of_cut (L := L) (lev := lv) 1 (fun p hp => by rw [Finset.mem_singleton.mp hp, L_tc]; exact Finset.mem_singleton_self _)
    (fun g u hg => by obtain ⟨k, rfl⟩ := owing_pos hg; rw [L_tc]; exact Finset.mem_singleton_self _)
    (fun p hp => by rw [Finset.mem_singleton.mp hp]; exact h)
    (fun g u hg => by obtain ⟨k, rfl⟩ := owing_pos hg; rw [lv_recv]; decide)

/-- Device `c`'s debts after `n` products, whatever waits it has recorded. -/
def Owes (c : Dev nD) (n : ℕ) : sProp 𝕄 := iprop(∃ W, owes (c : Thread nD τ) (owing c n) W)

/-! ## The talk's ghost state -/

/-- A cell's invariant, at whatever name. -/
def Inv (g : GSem nD τ sig) : sProp 𝕄 := iprop(∃ κ : ℕ, cellInv ER (Rd a) κ g)
instance Inv_persistent (g : GSem nD τ sig) : BI.Persistent (Inv a g) := by unfold Inv; infer_instance

/-- After a cell's one round its counter is back in hand, at zero. -/
theorem close (κ : ℕ) (g : GSem nD τ sig) :
    iprop(cellInv ER (Rd a) κ g ∗ atPos ER g (0 + 1) ∅ 0) ⊢ (|={Set.univ}=> semVal g 0 : sProp 𝕄) :=
  Rounds.cell_close ER (Rd a) (Set.mem_univ κ) id (duties_later a g)

/-- What device `c` needs to send product `k`, from the moment its cells are open. -/
def SendRes (c : Dev nD) (k : Fin 8) : sProp 𝕄 :=
  iprop(Inv a (sendCell c k) ∗ Inv a (recvCell (pr c) k) ∗ atPos ER (sendCell c k) 0 ∅ 0 ∗ reached ER (sendCell c k) 0
    ∗ dutyTok ER (sendCell c k) 0 () ∗ dutyTok ER (recvCell (pr c) k) 0 ())
/-- The landing slot that product `k` goes to, as the barrier hands it over. -/
def Landing (c : Dev nD) (k : Fin 8) : sProp 𝕄 := iprop(some' (recvS k) (pr c) ∗ reached ER (recvCell (pr c) k) 0)
/-- Product `k` sent and not yet waited for. -/
def Sending (c : Dev nD) (k : Fin 8) : sProp 𝕄 :=
  iprop(Inv a (sendCell c k) ∗ atPos ER (sendCell c k) 0 ∅ 0 ∗ cred (tallyAt (sendCell c k) () N))
/-- What device `c` needs to wait for product `k`. -/
def RecvRes (c : Dev nD) (k : Fin 8) : sProp 𝕄 :=
  iprop(Inv a (recvCell c k) ∗ atPos ER (recvCell c k) 0 ∅ 0 ∗ cred (tallyAt (recvCell c k) () N))
/-- What device `c` needs for the barrier. -/
def BarRes (c : Dev nD) : sProp 𝕄 :=
  iprop(Inv a (barCell c) ∗ Inv a (barCell (pr c)) ∗ atPos ER (barCell c) 0 ∅ 0 ∗ reached ER (barCell (pr c)) 0
    ∗ dutyTok ER (barCell (pr c)) 0 () ∗ cred (tallyAt (barCell c) () 1))

/-- The activations, whole. -/
def Act (c : Dev nD) : sProp 𝕄 := (c : Thread nD τ).loc main_arg0 ↦{fullShare} a.act c
/-- Chunk `i` on its way into slot `j`. -/
def Fetching (c : Dev nD) (i : Fin 16) (j : Fin 2) : sProp 𝕄 :=
  iprop(Transfers.Flight EC (c : Thread nD τ) (.dma (actQ j)) () (actS j).view.dmaCredit
      iprop(hold (actS j) c fullShare (chunk a c i) ∗ (srcM c i).view.loc (c : Thread nD τ) ↦[(srcM c i).view.set]{fullShare} a.act c)
    ∗ (c : Thread nD τ).loc main_arg0 ↦[Finset.univ \ (srcM c i).view.set]{fullShare} a.act c)
/-- Block `k` of the result on its way out of slot `j`. -/
def Writing (c : Dev nD) (k : Fin 8) (j : Fin 2) : sProp 𝕄 :=
  Transfers.Flight EC (c : Thread nD τ) (.dma (sumQ j)) () (resS k).view.dmaCredit iprop(hold (resS k) c fullShare (result a c k) ∗ some' (sumS j) c)
/-- The weights where the body finds them. -/
def Wts (c : Dev nD) : sProp 𝕄 := (c : Thread nD τ).loc cc0_stg0_0 ↦{fullShare} (a.wts c)

end Cert.KernelIdeal.Hand

end
-- ==== Proof.Steps.lean ====
/- What each step of the body does, at a symbolic device, chunk and slot. -/
module

public import proofs.«01_k».proof.Proof.Protocol

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (a : Args F) (c : Dev nD)

/-- What a program of the body meets on device `c`, ending in `Q`. -/
abbrev run (K : P F) (Q : PUnit → sProp 𝕄) : sProp 𝕄 := wp frame (wpE (defs₀ (F := F)) 𝒱₀ (c : Thread nD τ) none) Set.univ K Q

/-! ## Fetching -/

theorem step_startFetch {K : P F} {Q : PUnit.{1} → sProp 𝕄} (i : Fin 16) (j : Fin 2) :
    iprop(Act a c ∗ some' (actS j) c ∗ semVal ((c : Thread nD τ), .dma (actQ j)) 0)
      ⊢ iprop((Fetching a c i j -∗ run c K Q) -∗ run c (startFetch c i j K) Q) := by
  unfold Act some' startFetch
  iintro ⟨HA, ⟨%f, Hs⟩, Hv⟩ Hk
  ihave HA2 := (pointsTo_split_subset (ℓ := (c : Thread nD τ).loc main_arg0) (q := fullShare) (f := a.act c)
    (Finset.subset_univ (srcM c i).view.set)).1 $$ HA
  icases HA2 with ⟨HS, HR⟩
  iapply (Transfers.wp_dmaLocal EC 𝒱₀ (c : Thread nD τ) none (src := srcM c i) (dst := actS j) (sm := .dma (actQ j)) (q := fullShare)
    (fs := a.act c) (Sd := (actS j).view.set) (fd := f) () (actS j).view.dmaCredit rfl (View.dmaCredit_pos _ (by decide)) (Finset.Subset.refl _)) $$ [HS Hs Hv]
  · isplitl [HS]; · iexact HS
    isplitl [Hs] <;> iassumption
  iintro HF
  iapply Hk
  unfold Fetching
  isplitl [HF]
  · iapply (Transfers.Flight_mono EC (c : Thread nD τ) ?_) $$ HF
    refine sep_mono_left ?_
    unfold hold
    iintro H
    iexists _
    isplitr
    rotate_left
    · iexact H
    · ipureintro; exact View.read_write_univ ..
  iexact HR

theorem step_waitFetch {K : P F} {Q : PUnit.{1} → sProp 𝕄} (i : Fin 16) (j : Fin 2) (n : ℕ) :
    iprop(Fetching a c i j ∗ Owes c n ∗ levAts L lv)
      ⊢ iprop((iprop(Act a c ∗ hold (actS j) c fullShare (chunk a c i) ∗ semVal ((c : Thread nD τ), .dma (actQ j)) 0 ∗ Owes c n) -∗ run c K Q)
        -∗ run c (waitFetch c i j K) Q) := by
  unfold Fetching Owes waitFetch
  iintro ⟨⟨HF, HR⟩, ⟨%W, HO⟩, Hlev⟩ Hk
  iapply (Transfers.wp_waitLocalO EC 𝒱₀ (c : Thread nD τ) none (sem := actQ j) (srcw := srcM c i) (dstw := actS j) () rfl) $$ [HF HO Hlev]
  · isplitl [HF]; · iexact HF
    isplitl [HO]; · iexact HO
    iapply (mayWait c n (.dma (actQ j)) (lv_low c (recvIx_act j))) $$ Hlev
  iintro ⟨⟨HD, HS⟩, Hv, HO⟩
  iapply Hk
  isplitl [HS HR]
  · unfold Act
    iapply (pointsTo_split_subset (ℓ := (c : Thread nD τ).loc main_arg0) (q := fullShare) (f := a.act c)
      (Finset.subset_univ (srcM c i).view.set)).2
    isplitl [HS] <;> iassumption
  isplitl [HD]; · iexact HD
  isplitl [Hv]; · iexact Hv
  iexists _; iexact HO

/-! ## Waiting for a product to have left, and for a block of the result to be written -/

theorem step_waitSend {K : P F} {Q : PUnit.{1} → sProp 𝕄} (k : Fin 8) (n : ℕ) :
    iprop(Sending a c k ∗ Owes c n ∗ levAts L lv)
      ⊢ iprop((iprop(some' (sendS (slotOf k)) c ∗ semVal (sendCell c k) 0 ∗ Owes c n) -∗ run c K Q)
        -∗ run c (waitSend k (slotOf k) K) Q) := by
  unfold Sending Owes waitSend Inv
  rw [← credit_send (slotOf k)]
  iintro ⟨⟨⟨%κ, #HI⟩, Hat, Hc⟩, ⟨%W, HO⟩, Hlev⟩ Hk
  iapply (Rounds.wp_wait_rest_token 𝒱₀ ER (Rd a) (c : Thread nD τ) none (κ := κ)
      (wpE_waitDma2_eq 𝒱₀ (c : Thread nD τ) none Set.univ) (Set.mem_univ _) () (O := owing c n) (W := W) (R := 0) (m := 0) (T := ∅)
      ((Nat.zero_add _).trans ((expect_talk a (talks_send c k)).trans ((amount_send a c k ()).trans (credit_send (slotOf k)).symm)).symm)) $$ [Hc HO Hlev Hat]
  · isplitr; · iexact HI
    isplitl [Hc]; · iexact Hc
    isplitl [HO]; · iexact HO
    isplitl [Hlev]
    · iapply (mayWait c n (.dma (sendQ k)) (lv_low c (recvIx_send k))) $$ Hlev
    iexact Hat
  iintro ⟨HO, Hat, -, Hpay⟩
  ihave Hp := (Entails.of_eq ((rest_talk a (talks_send c k)).trans (pay_send a c k))) $$ Hpay
  imod (close a κ (sendCell c k)) $$ [Hat] with Hv
  · isplitr; · iexact HI
    iexact Hat
  iapply Hk
  isplitl [Hp]; · unfold sendPay; iexact Hp
  isplitl [Hv]; · iexact Hv
  iexists _; iexact HO

theorem step_waitOut {K : P F} {Q : PUnit.{1} → sProp 𝕄} (k : Fin 8) (j : Fin 2) (n : ℕ) :
    iprop(Writing a c k j ∗ Owes c n ∗ levAts L lv)
      ⊢ iprop((iprop(hold (resS k) c fullShare (result a c k) ∗ some' (sumS j) c ∗ semVal ((c : Thread nD τ), .dma (sumQ j)) 0 ∗ Owes c n) -∗ run c K Q)
        -∗ run c (waitOut k j K) Q) := by
  unfold Writing Owes waitOut
  iintro ⟨HF, ⟨%W, HO⟩, Hlev⟩ Hk
  iapply (Transfers.wp_waitLocalO EC 𝒱₀ (c : Thread nD τ) none (sem := sumQ j) (srcw := sumS j) (dstw := resS k) () rfl) $$ [HF HO Hlev]
  · isplitl [HF]; · iexact HF
    isplitl [HO]; · iexact HO
    iapply (mayWait c n (.dma (sumQ j)) (lv_low c (recvIx_sum j))) $$ Hlev
  iintro ⟨⟨HD, HS⟩, Hv, HO⟩
  iapply Hk
  isplitl [HD]; · iexact HD
  isplitl [HS]; · iexact HS
  isplitl [Hv]; · iexact Hv
  iexists _; iexact HO

/-! ## Multiplying and sending -/

/-- What the kernel stores in the slot it sends from, in terms of what the slots it loads from read. -/
theorem pay1_eq (j : Fin 2) (f : Buf (Elt F) ((actS j).view.loc (c : Thread nD τ))) (w : Vec F S2048x4096 .bf16) :
    k0_pay1 ((Memref.whole cc0_scratch0).view.readAt (Elt F) (actR j).toLoadRect f) w
      = shapeCast S1x256x4096 (truncf .bf16 (mul ((actS j).view.read (Elt F) f) w) bitsLt_bf16_f32) shapeCasts_S256x4096_S1x256x4096 := rfl

/-- What the kernel stores in the slot it writes the result from. -/
theorem pay12_eq (j : Fin 2) (k : Fin 8) (f : Buf (Elt F) ((actS j).view.loc (c : Thread nD τ))) (w : Vec F S2048x4096 .bf16)
    (g : Buf (Elt F) ((recvS k).view.loc (c : Thread nD τ))) :
    k0_pay12 (k0_pay11 ((Memref.whole cc0_scratch0).view.readAt (Elt F) (actR j).toLoadRect f) w)
        ((Memref.whole cc0_scratch2).view.readAt (Elt F) (recvR k).toLoadRect g)
      = shapeCast S1x256x4096 (truncf .bf16 (addf (mul ((actS j).view.read (Elt F) f) w) (extf .f32 ((recvS k).view.read (Elt F) g) bitsLt_bf16_f32))
          bitsLt_bf16_f32) shapeCasts_S256x4096_S1x256x4096 := rfl

/-- A slot of two read through its rectangle's view, and through the squeezed one. -/
theorem read_sendS (j : Fin 2) (f : Buf (Elt F) ((sendS j).view.loc (c : Thread nD τ))) (x : FVec F S256x4096 .bf16) :
    (sendS j).view.read (Elt F) (((Memref.whole cc0_scratch1).access (pairR j)).write (Elt F) f
      (shapeCast S1x256x4096 x shapeCasts_S256x4096_S1x256x4096) Finset.univ) = x := by
  show shapeCast S256x4096 (((Memref.whole cc0_scratch1).access (pairR j)).read (Elt F) _) squeezes_S1x256x4096_S256x4096.numel_eq = x
  rw [View.read_write_univ]
  exact shapeCast_shapeCast _ _ _
theorem read_sumS (j : Fin 2) (f : Buf (Elt F) ((sumS j).view.loc (c : Thread nD τ))) (x : FVec F S256x4096 .bf16) :
    (sumS j).view.read (Elt F) (((Memref.whole cc0_scratch3).access (pairR j)).write (Elt F) f
      (shapeCast S1x256x4096 x shapeCasts_S256x4096_S1x256x4096) Finset.univ) = x := by
  show shapeCast S256x4096 (((Memref.whole cc0_scratch3).access (pairR j)).read (Elt F) _) squeezes_S1x256x4096_S256x4096.numel_eq = x
  rw [View.read_write_univ]
  exact shapeCast_shapeCast _ _ _

theorem act_within (j : Fin 2) : (Memref.whole cc0_scratch0 : Memref sig .tc .vmem _ _).view.setOn (actR j).toLoadRect.set ⊆ (actS j).view.set := by
  rw [Memref.set_view_squeeze]; exact (View.set_slice _ _).ge
theorem send_within (j : Fin 2) : (Memref.whole cc0_scratch1 : Memref sig .tc .vmem _ _).view.setOn (pairR j).toLoadRect.set ⊆ (sendS j).view.set := by
  rw [Memref.set_view_squeeze]; exact (View.set_slice _ _).ge
theorem recv_within (k : Fin 8) : (Memref.whole cc0_scratch2 : Memref sig .tc .vmem _ _).view.setOn (recvR k).toLoadRect.set ⊆ (recvS k).view.set := by
  rw [Memref.set_view_squeeze]; exact (View.set_slice _ _).ge
theorem sum_within (j : Fin 2) : (Memref.whole cc0_scratch3 : Memref sig .tc .vmem _ _).view.setOn (pairR j).toLoadRect.set ⊆ (sumS j).view.set := by
  rw [Memref.set_view_squeeze]; exact (View.set_slice _ _).ge

/-- A slot just stored to holds what was stored. -/
theorem stored_send (j : Fin 2) (f : Buf (Elt F) ((sendS j).view.loc (c : Thread nD τ))) (x : FVec F S256x4096 .bf16) :
    (((sendS j).view.loc (c : Thread nD τ) ↦[(sendS j).view.set]{fullShare} (((Memref.whole cc0_scratch1).access (pairR j)).write (Elt F) f
      (shapeCast S1x256x4096 x shapeCasts_S256x4096_S1x256x4096) Finset.univ)) : sProp 𝕄) ⊢ hold (sendS j) c fullShare x := by
  unfold hold
  iintro H
  iexists _
  isplitr
  rotate_left
  · iexact H
  · ipureintro; exact read_sendS c j f x
theorem send_within' (j : Fin 2) : ((Memref.whole cc0_scratch1 : Memref sig .tc .vmem _ _).access (pairR j)).setOn Finset.univ ⊆ (sendS j).view.set := by
  rw [Memref.set_view_squeeze]; exact Finset.Subset.refl _
/-- A slot just stored to holds what was stored. -/
theorem stored_sum (j : Fin 2) (f : Buf (Elt F) ((sumS j).view.loc (c : Thread nD τ))) (x : FVec F S256x4096 .bf16) :
    (((sumS j).view.loc (c : Thread nD τ) ↦[(sumS j).view.set]{fullShare} (((Memref.whole cc0_scratch3).access (pairR j)).write (Elt F) f
      (shapeCast S1x256x4096 x shapeCasts_S256x4096_S1x256x4096) Finset.univ)) : sProp 𝕄) ⊢ hold (sumS j) c fullShare x := by
  unfold hold
  iintro H
  iexists _
  isplitr
  rotate_left
  · iexact H
  · ipureintro; exact read_sumS c j f x
theorem sum_within' (j : Fin 2) : ((Memref.whole cc0_scratch3 : Memref sig .tc .vmem _ _).access (pairR j)).setOn Finset.univ ⊆ (sumS j).view.set := by
  rw [Memref.set_view_squeeze]; exact Finset.Subset.refl _

theorem weights_eq (f : Buf (Elt F) ((c : Thread nD τ).loc cc0_stg0_0)) :
    (Memref.whole cc0_stg0_0 : Memref sig .tc .vmem _ _).view.readAt (Elt F)
      (Rect.unit (s := S2048x4096) ![0, 0] S2048x4096.size inb_S2048x4096_S2048x4096_0_0).toLoadRect f = f :=
  funext fun y => congrArg f (funext fun b => Fin.ext (by
    show (![0, 0] : Fin 2 → Nat) b + 1 * (y b).val = (y b).val
    have : (![0, 0] : Fin 2 → Nat) b = 0 := by fin_cases b <;> rfl
    omega))

/-- Multiplying chunk `k` and sending the product: the slot fetched into is free again, the copy is under way, and one copy
    less is owed. -/
theorem step_sendChunk {K : P F} {Q : PUnit.{1} → sProp 𝕄} {d : Dev nD} (hd : d = pr c) (k : Fin 8) :
    iprop(hold (actS (slotOf k)) c fullShare (chunk a c (Fin.castLE (by decide) k)) ∗ Wts a c ∗ some' (sendS (slotOf k)) c
        ∗ SendRes a c k ∗ Landing c k ∗ Owes c k.val)
      ⊢ iprop((iprop(some' (actS (slotOf k)) c ∗ Wts a c ∗ Sending a c k ∗ Owes c (k.val + 1)) -∗ run c K Q)
        -∗ run c (sendChunk d k (slotOf k) K) Q) := by
  subst hd
  unfold hold Wts SendRes Landing Owes sendChunk Inv
  iintro ⟨⟨%f, %hf, Ho⟩, Hw, Hs, ⟨⟨%κ₁, #HI1⟩, ⟨%κ₂, #HI2⟩, Hat, Hr1, Ht1, Ht2⟩, ⟨Hl, Hr2⟩, ⟨%W, HO⟩⟩ Hk
  iapply (wp_load 𝒱₀ (c : Thread nD τ) none Set.univ (m := Memref.whole cc0_scratch0) (r := (actR (slotOf k)).toLoadRect) (act_within (slotOf k))) $$ Ho
  iintro Ho
  iapply (wp_load 𝒱₀ (c : Thread nD τ) none Set.univ (m := Memref.whole cc0_stg0_0) (Finset.subset_univ _)) $$ Hw
  iintro Hw
  rw [weights_eq c, pay1_eq, hf]
  unfold some'
  icases Hs with ⟨%g, Hs⟩
  icases Hl with ⟨%h, Hl⟩
  iapply (wp_load 𝒱₀ (c : Thread nD τ) none Set.univ (m := Memref.whole cc0_scratch1) (r := (pairR (slotOf k)).toLoadRect) (send_within (slotOf k))) $$ Hs
  iintro Hs
  iapply (wp_store 𝒱₀ (c : Thread nD τ) none Set.univ (m := Memref.whole cc0_scratch1) (r := pairR (slotOf k)) (Mk := Finset.univ) (send_within' (slotOf k))) $$ Hs
  iintro Hs
  ihave Hs' := (stored_send c (slotOf k) g _) $$ Hs
  unfold hold
  icases Hs' with ⟨%gs, %hgs, Hs⟩
  iapply (Rounds.wp_send_pointsTo 𝒱₀ ER (Rd a) (c : Thread nD τ) none (c' := (pr c : Thread nD τ)) (src := sendS (slotOf k)) (dst := recvS k)
      (sS := .dma (sendQ k)) (sem := .dma (recvQ k)) (q := fullShare) (fs := gs) (κ₁ := κ₁) (κ₂ := κ₂) (r₁ := 0) (r₂ := 0) (d₁ := ()) (d₂ := ()) (fd := h)
      (mem_duties a (talks_send c k)) (mem_duties a (talks_recv (pr c) k)) () () N (credit_recv k) (amount_send a c k ()) (amount_recv a (pr c) k ())
      (owing c (k.val + 1)) (owing_succ c k) (W := W)
      (by
        show _ ⊢ pay a (sendCell c k)
        rw [pay_send]; unfold sendPay some'
        iintro H; iexists _; iexact H)
      (by
        show _ ⊢ pay a (recvCell (pr c) k)
        rw [pay_recv]; unfold recvPay hold
        iintro H; iexists _
        isplitr
        rotate_left
        · iexact H
        · ipureintro
          rw [View.read_write_univ, pr_pr]
          exact hgs)) $$ [Hs Hl HO Ht1 Hr1 Ht2 Hr2]
  · isplitr; · iexact HI1
    isplitr; · iexact HI2
    isplitl [Hs]; · iexact Hs
    isplitl [Hl]; · iexact Hl
    isplitl [HO]; · iexact HO
    isplitl [Ht1]; · iexact Ht1
    isplitl [Hr1]; · iexact Hr1
    isplitl [Ht2] <;> iassumption
  iintro ⟨Hc, HO⟩
  iapply Hk
  isplitl [Ho]; · iexists f; iexact Ho
  isplitl [Hw]; · iexact Hw
  isplitl [Hat Hc]
  · unfold Sending Inv
    isplitr; · iexists κ₁; iexact HI1
    isplitl [Hat] <;> iassumption
  iexists W; iexact HO

/-- Multiplying chunk `8 + k`, adding product `k` received, and starting to write block `k` of the result. -/
theorem step_sumChunk {K : P F} {Q : PUnit.{1} → sProp 𝕄} (k : Fin 8) :
    iprop(hold (actS (slotOf k)) c fullShare (chunk a c (Fin.natAdd 8 k)) ∗ Wts a c ∗ RecvRes a c k ∗ some' (sumS (slotOf k)) c
        ∗ some' (resS k) c ∗ semVal ((c : Thread nD τ), .dma (sumQ (slotOf k))) 0 ∗ Owes c 8)
      ⊢ iprop((iprop(some' (actS (slotOf k)) c ∗ Wts a c ∗ some' (recvS k) c ∗ semVal (recvCell c k) 0 ∗ Writing a c k (slotOf k) ∗ Owes c 8) -∗ run c K Q)
        -∗ run c (sumChunk k (slotOf k) K) Q) := by
  unfold hold Wts RecvRes Owes sumChunk Inv
  iintro ⟨⟨%f, %hf, Ho⟩, Hw, ⟨⟨%κ, #HI⟩, Hat, Hc⟩, Hs, Hx, Hv, ⟨%W, HO⟩⟩ Hk
  iapply (wp_load 𝒱₀ (c : Thread nD τ) none Set.univ (m := Memref.whole cc0_scratch0) (r := (actR (slotOf k)).toLoadRect) (act_within (slotOf k))) $$ Ho
  iintro Ho
  iapply (wp_load 𝒱₀ (c : Thread nD τ) none Set.univ (m := Memref.whole cc0_stg0_0) (Finset.subset_univ _)) $$ Hw
  iintro Hw
  rw [weights_eq c]
  rw [← credit_recv k]
  iapply (Rounds.wp_wait_rest_token 𝒱₀ ER (Rd a) (c : Thread nD τ) none (κ := κ)
      (wpE_waitDma2_eq 𝒱₀ (c : Thread nD τ) none Set.univ) (Set.mem_univ _) () (O := owing c 8) (W := W) (R := 0) (m := 0) (T := ∅)
      ((Nat.zero_add _).trans ((expect_talk a (talks_recv c k)).trans ((amount_recv a c k ()).trans (credit_recv k).symm)).symm)) $$ [Hc HO Hat]
  · isplitr; · iexact HI
    isplitl [Hc]; · iexact Hc
    isplitl [HO]; · iexact HO
    isplitr
    · rw [owing_end, MayWait_zero]; iempintro
    iexact Hat
  iintro ⟨HO, Hat, -, Hpay⟩
  ihave Hp := (Entails.of_eq ((rest_talk a (talks_recv c k)).trans (pay_recv a c k))) $$ Hpay
  imod (close a κ (recvCell c k)) $$ [Hat] with Hv2
  · isplitr; · iexact HI
    iexact Hat
  unfold recvPay some' hold
  icases Hp with ⟨%u, %hu, Hp⟩
  icases Hs with ⟨%g, Hs⟩
  icases Hx with ⟨%h, Hx⟩
  iapply (wp_load 𝒱₀ (c : Thread nD τ) none Set.univ (m := Memref.whole cc0_scratch2) (r := (recvR k).toLoadRect) (recv_within k)) $$ Hp
  iintro Hp
  rw [pay12_eq, hf, hu]
  iapply (wp_load 𝒱₀ (c : Thread nD τ) none Set.univ (m := Memref.whole cc0_scratch3) (r := (pairR (slotOf k)).toLoadRect) (sum_within (slotOf k))) $$ Hs
  iintro Hs
  iapply (wp_store 𝒱₀ (c : Thread nD τ) none Set.univ (m := Memref.whole cc0_scratch3) (r := pairR (slotOf k)) (Mk := Finset.univ) (sum_within' (slotOf k))) $$ Hs
  iintro Hs
  ihave Hs' := (stored_sum c (slotOf k) g _) $$ Hs
  unfold hold
  icases Hs' with ⟨%gs, %hgs, Hs⟩
  iapply (Transfers.wp_dmaLocal EC 𝒱₀ (c : Thread nD τ) none (src := sumS (slotOf k)) (dst := resS k) (sm := .dma (sumQ (slotOf k))) (q := fullShare) (fs := gs)
    (Sd := (resS k).view.set) (fd := h) () (resS k).view.dmaCredit rfl (View.dmaCredit_pos _ (by decide)) (Finset.Subset.refl _)) $$ [Hs Hx Hv]
  · isplitl [Hs]; · iexact Hs
    isplitl [Hx] <;> iassumption
  iintro HF
  iapply Hk
  isplitl [Ho]; · iexists f; iexact Ho
  isplitl [Hw]; · iexact Hw
  isplitl [Hp]; · iexists u; iexact Hp
  isplitl [Hv2]; · iexact Hv2
  isplitl [HF]
  · unfold Writing
    iapply (Transfers.Flight_mono EC (c : Thread nD τ) ?_) $$ HF
    unfold hold some'
    iintro ⟨H, H'⟩
    isplitl [H]
    · iexists _
      isplitr
      rotate_left
      · iexact H
      · ipureintro
        rw [View.read_write_univ]
        exact hgs
    iexists _; iexact H'
  iexists _; iexact HO

/-! ## The barrier -/

/-- The own landing slots, each with its cell open, before the barrier hands them over. -/
def Slots (c : Dev nD) : sProp 𝕄 := bigSep Finset.univ fun k : Fin 8 => iprop(some' (recvS k) c ∗ reached ER (recvCell c k) 0)

/-- The barrier: the own landing slots go to the other device, and its landing slots come. -/
theorem step_barrier {K : P F} {Q : PUnit.{1} → sProp 𝕄} {d : Dev nD} (hd : d = pr c) {W : Waits sig Unit} :
    iprop(BarRes a c ∗ Slots c ∗ owes (c : Thread nD τ) (owed c) W ∗ levAts L lv)
      ⊢ iprop((iprop(bigSep Finset.univ (Landing (F := F) c) ∗ semVal (barCell c) 0 ∗ Owes c 0) -∗ run c K Q)
        -∗ run c (.op (.semSignal (Dev.tc d) barQ 1) fun _ => .op (.semWait barQ 1) fun _ => K) Q) := by
  subst hd
  unfold BarRes Inv
  iintro ⟨⟨⟨%κ₁, #HI1⟩, ⟨%κ₂, #HI2⟩, Hat, Hr, Ht, Hc⟩, Hs, HO, Hlev⟩ Hk
  iapply (Rounds.wp_signal 𝒱₀ ER (Rd a) (c : Thread nD τ) none (dst := (pr c : Thread nD τ)) (sem := barQ) (r := 0) (d := ()) (κ := κ₂)
      (mem_duties a (talks_bar (pr c))) (amount_bar a (pr c) ()) () (owing c 0) rfl) $$ [HO Ht Hs Hr]
  · isplitr; · iexact HI2
    isplitl [HO]; · iexact HO
    isplitl [Ht]; · iexact Ht
    isplitl [Hs]
    · rw [show (Rd a).payload (barCell (pr c)) 0 () = barPay (pr c) from pay_bar a (pr c)]
      unfold barPay Slots; rw [pr_pr]
      iexact Hs
    · iexact Hr
  iintro HO
  iapply (Rounds.wp_wait_rest_token 𝒱₀ ER (Rd a) (c : Thread nD τ) none (κ := κ₁)
      (wpE_semWait_eq 𝒱₀ (c : Thread nD τ) none Set.univ) (Set.mem_univ _) () (O := owing c 0) (W := W) (R := 0) (m := 0) (T := ∅)
      ((Nat.zero_add 1).trans ((expect_talk a (talks_bar c)).trans (amount_bar a c ())).symm)) $$ [Hc HO Hlev Hat]
  · isplitr; · iexact HI1
    isplitl [Hc]; · iexact Hc
    isplitl [HO]; · iexact HO
    isplitl [Hlev]; · iapply (mayWait c 0 (.reg barQ) (lv_bar c).le) $$ Hlev
    iexact Hat
  iintro ⟨HO, Hat, -, Hpay⟩
  ihave Hp := (Entails.of_eq ((rest_talk a (talks_bar c)).trans (pay_bar a c))) $$ Hpay
  imod (close a κ₁ (barCell c)) $$ [Hat] with Hv
  · isplitr; · iexact HI1
    iexact Hat
  iapply Hk
  isplitl [Hp]; · unfold barPay Landing; iexact Hp
  isplitl [Hv]; · iexact Hv
  unfold Owes; iexists _; iexact HO

end Cert.KernelIdeal.Hand

end
-- ==== Proof.Body.lean ====
/- The body's run on a symbolic device: the sixteen rounds, each from the steps, and their sequence. -/
module

public import proofs.«01_k».proof.Proof.Steps

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (a : Args F) (c : Dev nD)

/-! ## Rounds -/

/-- Chunk `i` is on its way into slot `j`, the other slot `j'` is free, and all but the first `n` products are owed. -/
def Ready (i : Fin 16) (j j' : Fin 2) (n : ℕ) : sProp 𝕄 :=
  iprop(Fetching a c i j ∗ some' (actS j') c ∗ semVal ((c : Thread nD τ), .dma (actQ j')) 0 ∗ Wts a c ∗ Owes c n)

/-- One of the first two rounds of sending: the slot to send from is free. -/
theorem send_first {K : P F} {Q : PUnit.{1} → sProp 𝕄} {d : Dev nD} (hd : d = pr c) (i i' : Fin 16) (j j' : Fin 2) (k : Fin 8)
    (hi : i = Fin.castLE (by decide) k) (hj : j = slotOf k) (n : ℕ) (hn : n = k.val) :
    iprop(Ready a c i j j' n ∗ SendRes a c k ∗ Landing c k ∗ some' (sendS j) c ∗ levAts L lv)
      ⊢ iprop((iprop(Ready a c i' j' j (n + 1) ∗ Sending a c k) -∗ run c K Q)
        -∗ run c (waitFetch c i j <| startFetch c i' j' <| sendChunk d k j K) Q) := by
  subst hi hj hn
  unfold Ready
  iintro ⟨⟨HF, Hs', Hv', Hw, HO⟩, HR, Hl, Hs, #Hlev⟩ Hk
  iapply (step_waitFetch a c (Fin.castLE _ k) (slotOf k) k.val) $$ [HF HO]
  · isplitl [HF]; · iexact HF
    isplitl [HO]; · iexact HO
    iexact Hlev
  iintro ⟨HA, Ho, Hv, HO⟩
  iapply (step_startFetch a c i' j') $$ [HA Hs' Hv']
  · isplitl [HA]; · iexact HA
    isplitl [Hs'] <;> iassumption
  iintro HF
  iapply (step_sendChunk a c hd k) $$ [Ho Hw Hs HR Hl HO]
  · isplitl [Ho]; · iexact Ho
    isplitl [Hw]; · iexact Hw
    isplitl [Hs]; · iexact Hs
    isplitl [HR]; · iexact HR
    isplitl [Hl] <;> iassumption
  iintro ⟨Ho, Hw, HS, HO⟩
  iapply Hk
  isplitr [HS]
  · isplitl [HF]; · iexact HF
    isplitl [Ho]; · iexact Ho
    isplitl [Hv]; · iexact Hv
    isplitl [Hw] <;> iassumption
  iexact HS

/-- A later round of sending: product `k₀`, sent from the same slot two rounds before, is waited for first. -/
theorem send_next {K : P F} {Q : PUnit.{1} → sProp 𝕄} {d : Dev nD} (hd : d = pr c) (i i' : Fin 16) (j j' : Fin 2) (k₀ k : Fin 8)
    (hi : i = Fin.castLE (by decide) k) (hj : j = slotOf k) (hj₀ : slotOf k = slotOf k₀) (n : ℕ) (hn : n = k.val) :
    iprop(Ready a c i j j' n ∗ SendRes a c k ∗ Landing c k ∗ Sending a c k₀ ∗ levAts L lv)
      ⊢ iprop((iprop(Ready a c i' j' j (n + 1) ∗ Sending a c k ∗ semVal (sendCell c k₀) 0) -∗ run c K Q)
        -∗ run c (waitFetch c i j <| startFetch c i' j' <| waitSend k₀ j <| sendChunk d k j K) Q) := by
  subst hi hj hn
  unfold Ready
  iintro ⟨⟨HF, Hs', Hv', Hw, HO⟩, HR, Hl, HS₀, #Hlev⟩ Hk
  iapply (step_waitFetch a c (Fin.castLE _ k) (slotOf k) k.val) $$ [HF HO]
  · isplitl [HF]; · iexact HF
    isplitl [HO]; · iexact HO
    iexact Hlev
  iintro ⟨HA, Ho, Hv, HO⟩
  iapply (step_startFetch a c i' j') $$ [HA Hs' Hv']
  · isplitl [HA]; · iexact HA
    isplitl [Hs'] <;> iassumption
  iintro HF
  rw [hj₀]
  iapply (step_waitSend a c k₀ k.val) $$ [HS₀ HO]
  · isplitl [HS₀]; · iexact HS₀
    isplitl [HO]; · iexact HO
    iexact Hlev
  iintro ⟨Hs, Hv₀, HO⟩
  rw [← hj₀]
  iapply (step_sendChunk a c hd k) $$ [Ho Hw Hs HR Hl HO]
  · isplitl [Ho]; · iexact Ho
    isplitl [Hw]; · iexact Hw
    isplitl [Hs]; · iexact Hs
    isplitl [HR]; · iexact HR
    isplitl [Hl] <;> iassumption
  iintro ⟨Ho, Hw, HS, HO⟩
  iapply Hk
  isplitr [HS Hv₀]
  · isplitl [HF]; · iexact HF
    isplitl [Ho]; · iexact Ho
    isplitl [Hv]; · iexact Hv
    isplitl [Hw] <;> iassumption
  isplitl [HS] <;> iassumption

/-- One of the first two rounds of adding: the slot to write from is free. -/
theorem sum_first {K : P F} {Q : PUnit.{1} → sProp 𝕄} (i i' : Fin 16) (j j' : Fin 2) (k : Fin 8)
    (hi : i = Fin.natAdd 8 k) (hj : j = slotOf k) :
    iprop(Ready a c i j j' 8 ∗ RecvRes a c k ∗ some' (resS k) c ∗ some' (sumS j) c ∗ semVal ((c : Thread nD τ), .dma (sumQ j)) 0 ∗ levAts L lv)
      ⊢ iprop((iprop(Ready a c i' j' j 8 ∗ Writing a c k j ∗ some' (recvS k) c ∗ semVal (recvCell c k) 0) -∗ run c K Q)
        -∗ run c (waitFetch c i j <| startFetch c i' j' <| sumChunk k j K) Q) := by
  subst hi hj
  unfold Ready
  iintro ⟨⟨HF, Hs', Hv', Hw, HO⟩, HR, Hx, Hs, Hq, #Hlev⟩ Hk
  iapply (step_waitFetch a c (Fin.natAdd 8 k) (slotOf k) 8) $$ [HF HO]
  · isplitl [HF]; · iexact HF
    isplitl [HO]; · iexact HO
    iexact Hlev
  iintro ⟨HA, Ho, Hv, HO⟩
  iapply (step_startFetch a c i' j') $$ [HA Hs' Hv']
  · isplitl [HA]; · iexact HA
    isplitl [Hs'] <;> iassumption
  iintro HF
  iapply (step_sumChunk a c k) $$ [Ho Hw Hs HR Hx Hq HO]
  · isplitl [Ho]; · iexact Ho
    isplitl [Hw]; · iexact Hw
    isplitl [HR]; · iexact HR
    isplitl [Hs]; · iexact Hs
    isplitl [Hx]; · iexact Hx
    isplitl [Hq] <;> iassumption
  iintro ⟨Ho, Hw, Hr, Hv₂, HW, HO⟩
  iapply Hk
  isplitr [HW Hr Hv₂]
  · isplitl [HF]; · iexact HF
    isplitl [Ho]; · iexact Ho
    isplitl [Hv]; · iexact Hv
    isplitl [Hw] <;> iassumption
  isplitl [HW]; · iexact HW
  isplitl [Hr] <;> iassumption

/-- A later round of adding: block `k₀` of the result, written from the same slot two rounds before, is waited for first. -/
theorem sum_next {K : P F} {Q : PUnit.{1} → sProp 𝕄} (i i' : Fin 16) (j j' : Fin 2) (k₀ k : Fin 8)
    (hi : i = Fin.natAdd 8 k) (hj : j = slotOf k) :
    iprop(Ready a c i j j' 8 ∗ RecvRes a c k ∗ some' (resS k) c ∗ Writing a c k₀ j ∗ levAts L lv)
      ⊢ iprop((iprop(Ready a c i' j' j 8 ∗ Writing a c k j ∗ some' (recvS k) c ∗ semVal (recvCell c k) 0 ∗ hold (resS k₀) c fullShare (result a c k₀))
          -∗ run c K Q)
        -∗ run c (waitFetch c i j <| startFetch c i' j' <| waitOut k₀ j <| sumChunk k j K) Q) := by
  subst hi hj
  unfold Ready
  iintro ⟨⟨HF, Hs', Hv', Hw, HO⟩, HR, Hx, HW₀, #Hlev⟩ Hk
  iapply (step_waitFetch a c (Fin.natAdd 8 k) (slotOf k) 8) $$ [HF HO]
  · isplitl [HF]; · iexact HF
    isplitl [HO]; · iexact HO
    iexact Hlev
  iintro ⟨HA, Ho, Hv, HO⟩
  iapply (step_startFetch a c i' j') $$ [HA Hs' Hv']
  · isplitl [HA]; · iexact HA
    isplitl [Hs'] <;> iassumption
  iintro HF
  iapply (step_waitOut a c k₀ (slotOf k) 8) $$ [HW₀ HO]
  · isplitl [HW₀]; · iexact HW₀
    isplitl [HO]; · iexact HO
    iexact Hlev
  iintro ⟨Hx₀, Hs, Hq, HO⟩
  iapply (step_sumChunk a c k) $$ [Ho Hw Hs HR Hx Hq HO]
  · isplitl [Ho]; · iexact Ho
    isplitl [Hw]; · iexact Hw
    isplitl [HR]; · iexact HR
    isplitl [Hs]; · iexact Hs
    isplitl [Hx]; · iexact Hx
    isplitl [Hq] <;> iassumption
  iintro ⟨Ho, Hw, Hr, Hv₂, HW, HO⟩
  iapply Hk
  isplitr [HW Hr Hv₂ Hx₀]
  · isplitl [HF]; · iexact HF
    isplitl [Ho]; · iexact Ho
    isplitl [Hv]; · iexact Hv
    isplitl [Hw] <;> iassumption
  isplitl [HW]; · iexact HW
  isplitl [Hr]; · iexact Hr
  isplitl [Hv₂] <;> iassumption

/-- The last round of adding: nothing more to fetch. -/
theorem sum_last {K : P F} {Q : PUnit.{1} → sProp 𝕄} (i : Fin 16) (j j' : Fin 2) (k₀ k : Fin 8)
    (hi : i = Fin.natAdd 8 k) (hj : j = slotOf k) :
    iprop(Ready a c i j j' 8 ∗ RecvRes a c k ∗ some' (resS k) c ∗ Writing a c k₀ j ∗ levAts L lv)
      ⊢ iprop((iprop((Act a c ∗ (some' (actS j) c ∗ some' (actS j') c)
              ∗ (semVal ((c : Thread nD τ), .dma (actQ j)) 0 ∗ semVal ((c : Thread nD τ), .dma (actQ j')) 0) ∗ Wts a c ∗ Owes c 8)
            ∗ Writing a c k j ∗ some' (recvS k) c ∗ semVal (recvCell c k) 0 ∗ hold (resS k₀) c fullShare (result a c k₀))
          -∗ run c K Q)
        -∗ run c (waitFetch c i j <| waitOut k₀ j <| sumChunk k j K) Q) := by
  subst hi hj
  unfold Ready
  iintro ⟨⟨HF, Hs', Hv', Hw, HO⟩, HR, Hx, HW₀, #Hlev⟩ Hk
  iapply (step_waitFetch a c (Fin.natAdd 8 k) (slotOf k) 8) $$ [HF HO]
  · isplitl [HF]; · iexact HF
    isplitl [HO]; · iexact HO
    iexact Hlev
  iintro ⟨HA, Ho, Hv, HO⟩
  iapply (step_waitOut a c k₀ (slotOf k) 8) $$ [HW₀ HO]
  · isplitl [HW₀]; · iexact HW₀
    isplitl [HO]; · iexact HO
    iexact Hlev
  iintro ⟨Hx₀, Hs, Hq, HO⟩
  iapply (step_sumChunk a c k) $$ [Ho Hw Hs HR Hx Hq HO]
  · isplitl [Ho]; · iexact Ho
    isplitl [Hw]; · iexact Hw
    isplitl [HR]; · iexact HR
    isplitl [Hs]; · iexact Hs
    isplitl [Hx]; · iexact Hx
    isplitl [Hq] <;> iassumption
  iintro ⟨Ho, Hw, Hr, Hv₂, HW, HO⟩
  iapply Hk
  isplitr [HW Hr Hv₂ Hx₀]
  · isplitl [HA]; · iexact HA
    isplitl [Ho Hs']; · isplitl [Ho] <;> iassumption
    isplitl [Hv Hv']; · isplitl [Hv] <;> iassumption
    isplitl [Hw] <;> iassumption
  isplitl [HW]; · iexact HW
  isplitl [Hr]; · iexact Hr
  isplitl [Hv₂] <;> iassumption

/-! ## The devices the body addresses -/

theorem dest_val (d : Dev nD) : (pr d).val = (2 * ((d.val / 2) % 2) + d.val % 2 + 4) - 4 * (d.val / 4) := by revert d; decide
theorem dest_eq (k : Fin 8) : dest c k = pr c := by
  refine Fin.ext ((?_ : (dest c k).val = _).trans (dest_val c).symm)
  fin_cases k
  exacts [k0_dev2_eq c, k0_dev3_eq c, k0_dev4_eq c, k0_dev5_eq c, k0_dev6_eq c, k0_dev7_eq c, k0_dev8_eq c, k0_dev9_eq c]
theorem dest₁_eq : (⟨k0_dev1 c, k0_dev1_lt c⟩ : Dev nD) = pr c := Fin.ext ((k0_dev1_eq c).trans (dest_val c).symm)

/-! ## The whole body -/

/-- A separating conjunction over the eight products, spelled out. -/
theorem eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  rfl

/-- What the body starts from. -/
def BodyPre (W : Waits sig Unit) : sProp 𝕄 :=
  iprop(BarRes a c ∗ Slots c ∗ bigSep Finset.univ (SendRes a c) ∗ bigSep Finset.univ (RecvRes a c) ∗ owes (c : Thread nD τ) (owed c) W ∗ levAts L lv
    ∗ Act a c ∗ Wts a c ∗ (some' (actS 0) c ∗ some' (actS 1) c) ∗ (some' (sendS 0) c ∗ some' (sendS 1) c) ∗ (some' (sumS 0) c ∗ some' (sumS 1) c)
    ∗ bigSep Finset.univ (fun k => some' (resS k) c)
    ∗ (semVal ((c : Thread nD τ), .dma (actQ 0)) 0 ∗ semVal ((c : Thread nD τ), .dma (actQ 1)) 0)
    ∗ (semVal ((c : Thread nD τ), .dma (sumQ 0)) 0 ∗ semVal ((c : Thread nD τ), .dma (sumQ 1)) 0))

/-- What it ends with: every block of the result, the buffers and the counters back, nothing owed. -/
def BodyPost : sProp 𝕄 :=
  iprop(Act a c ∗ Wts a c ∗ (some' (actS 0) c ∗ some' (actS 1) c) ∗ (some' (sendS 0) c ∗ some' (sendS 1) c)
    ∗ bigSep Finset.univ (fun k => some' (recvS k) c) ∗ (some' (sumS 0) c ∗ some' (sumS 1) c)
    ∗ bigSep Finset.univ (fun k => hold (resS k) c fullShare (result a c k))
    ∗ semVal (barCell c) 0
    ∗ (semVal ((c : Thread nD τ), .dma (actQ 0)) 0 ∗ semVal ((c : Thread nD τ), .dma (actQ 1)) 0)
    ∗ bigSep Finset.univ (fun k => semVal (sendCell c k) 0) ∗ bigSep Finset.univ (fun k => semVal (recvCell c k) 0)
    ∗ (semVal ((c : Thread nD τ), .dma (sumQ 0)) 0 ∗ semVal ((c : Thread nD τ), .dma (sumQ 1)) 0)
    ∗ ∃ W, owes (c : Thread nD τ) (0 : CellTallies nD τ sig Unit) W)

set_option maxHeartbeats 1600000 in
set_option maxRecDepth 65536 in
/-- The body, from `BodyPre` to `BodyPost`. -/
theorem body_run (W : Waits sig Unit) (Q : PUnit.{1} → sProp 𝕄) :
    iprop(BodyPre a c W ∗ (BodyPost a c -∗ Q ⟨⟩)) ⊢ run c (body (F := F)) Q := by
  unfold body run
  rw [wp_deviceId]
  show _ ⊢ run c _ Q
  unfold BodyPre
  rw [eight (F := F) (SendRes a c), eight (F := F) (RecvRes a c), eight (F := F) (fun k => some' (resS k) c)]
  iintro ⟨⟨HB, Hsl, HSR, HRR, HO, #Hlev, HA, Hw, ⟨Ha0, Ha1⟩, ⟨Hs0, Hs1⟩, ⟨Hg0, Hg1⟩, HX, ⟨Hp0, Hp1⟩, ⟨Hq0, Hq1⟩⟩, Hk⟩
  icases HSR with ⟨HS0, HS1, HS2, HS3, HS4, HS5, HS6, HS7⟩
  icases HRR with ⟨HR0, HR1, HR2, HR3, HR4, HR5, HR6, HR7⟩
  icases HX with ⟨HX0, HX1, HX2, HX3, HX4, HX5, HX6, HX7⟩
  iapply (step_barrier a c (dest₁_eq c)) $$ [HB Hsl HO]
  · isplitl [HB]; · iexact HB
    isplitl [Hsl]; · iexact Hsl
    isplitl [HO]; · iexact HO
    iexact Hlev
  iintro ⟨HL, Hb, HO⟩
  ihave HL := (Entails.of_eq (eight (F := F) (Landing c))) $$ HL
  icases HL with ⟨HL0, HL1, HL2, HL3, HL4, HL5, HL6, HL7⟩
  unfold chunks
  iapply (step_startFetch a c 0 0) $$ [HA Ha0 Hp0]
  · isplitl [HA]; · iexact HA
    isplitl [Ha0] <;> iassumption
  iintro HF
  ihave HY := (show iprop(Fetching a c 0 0 ∗ some' (actS 1) c ∗ semVal ((c : Thread nD τ), .dma (actQ 1)) 0 ∗ Wts a c ∗ Owes c 0)
      ⊢ Ready a c 0 0 1 0 from by unfold Ready; exact Entails.refl _) $$ [HF Ha1 Hp1 Hw HO]
  · isplitl [HF]; · iexact HF
    isplitl [Ha1]; · iexact Ha1
    isplitl [Hp1]; · iexact Hp1
    isplitl [Hw] <;> iassumption
  -- the eight products sent
  iapply (send_first a c (dest_eq c 0) 0 1 0 1 0 rfl rfl 0 rfl) $$ [HY HS0 HL0 Hs0]
  · isplitl [HY]; · iexact HY
    isplitl [HS0]; · iexact HS0
    isplitl [HL0]; · iexact HL0
    isplitl [Hs0]; · iexact Hs0
    iexact Hlev
  iintro ⟨HY, HS0⟩
  iapply (send_first a c (dest_eq c 1) 1 2 1 0 1 rfl rfl 1 rfl) $$ [HY HS1 HL1 Hs1]
  · isplitl [HY]; · iexact HY
    isplitl [HS1]; · iexact HS1
    isplitl [HL1]; · iexact HL1
    isplitl [Hs1]; · iexact Hs1
    iexact Hlev
  iintro ⟨HY, HS1⟩
  iapply (send_next a c (dest_eq c 2) 2 3 0 1 0 2 rfl rfl rfl 2 rfl) $$ [HY HS2 HL2 HS0]
  · isplitl [HY]; · iexact HY
    isplitl [HS2]; · iexact HS2
    isplitl [HL2]; · iexact HL2
    isplitl [HS0]; · iexact HS0
    iexact Hlev
  iintro ⟨HY, HS2, HS0⟩
  iapply (send_next a c (dest_eq c 3) 3 4 1 0 1 3 rfl rfl rfl 3 rfl) $$ [HY HS3 HL3 HS1]
  · isplitl [HY]; · iexact HY
    isplitl [HS3]; · iexact HS3
    isplitl [HL3]; · iexact HL3
    isplitl [HS1]; · iexact HS1
    iexact Hlev
  iintro ⟨HY, HS3, HS1⟩
  iapply (send_next a c (dest_eq c 4) 4 5 0 1 2 4 rfl rfl rfl 4 rfl) $$ [HY HS4 HL4 HS2]
  · isplitl [HY]; · iexact HY
    isplitl [HS4]; · iexact HS4
    isplitl [HL4]; · iexact HL4
    isplitl [HS2]; · iexact HS2
    iexact Hlev
  iintro ⟨HY, HS4, HS2⟩
  iapply (send_next a c (dest_eq c 5) 5 6 1 0 3 5 rfl rfl rfl 5 rfl) $$ [HY HS5 HL5 HS3]
  · isplitl [HY]; · iexact HY
    isplitl [HS5]; · iexact HS5
    isplitl [HL5]; · iexact HL5
    isplitl [HS3]; · iexact HS3
    iexact Hlev
  iintro ⟨HY, HS5, HS3⟩
  iapply (send_next a c (dest_eq c 6) 6 7 0 1 4 6 rfl rfl rfl 6 rfl) $$ [HY HS6 HL6 HS4]
  · isplitl [HY]; · iexact HY
    isplitl [HS6]; · iexact HS6
    isplitl [HL6]; · iexact HL6
    isplitl [HS4]; · iexact HS4
    iexact Hlev
  iintro ⟨HY, HS6, HS4⟩
  iapply (send_next a c (dest_eq c 7) 7 8 1 0 5 7 rfl rfl rfl 7 rfl) $$ [HY HS7 HL7 HS5]
  · isplitl [HY]; · iexact HY
    isplitl [HS7]; · iexact HS7
    isplitl [HL7]; · iexact HL7
    isplitl [HS5]; · iexact HS5
    iexact Hlev
  iintro ⟨HY, HS7, HS5⟩
  -- the eight products received and added
  iapply (sum_first a c 8 9 0 1 0 rfl rfl) $$ [HY HR0 HX0 Hg0 Hq0]
  · isplitl [HY]; · iexact HY
    isplitl [HR0]; · iexact HR0
    isplitl [HX0]; · iexact HX0
    isplitl [Hg0]; · iexact Hg0
    isplitl [Hq0]; · iexact Hq0
    iexact Hlev
  iintro ⟨HY, HX0, HR0, HV0⟩
  iapply (sum_first a c 9 10 1 0 1 rfl rfl) $$ [HY HR1 HX1 Hg1 Hq1]
  · isplitl [HY]; · iexact HY
    isplitl [HR1]; · iexact HR1
    isplitl [HX1]; · iexact HX1
    isplitl [Hg1]; · iexact Hg1
    isplitl [Hq1]; · iexact Hq1
    iexact Hlev
  iintro ⟨HY, HX1, HR1, HV1⟩
  iapply (sum_next a c 10 11 0 1 0 2 rfl rfl) $$ [HY HR2 HX2 HX0]
  · isplitl [HY]; · iexact HY
    isplitl [HR2]; · iexact HR2
    isplitl [HX2]; · iexact HX2
    isplitl [HX0]; · iexact HX0
    iexact Hlev
  iintro ⟨HY, HX2, HR2, HV2, HX0⟩
  iapply (sum_next a c 11 12 1 0 1 3 rfl rfl) $$ [HY HR3 HX3 HX1]
  · isplitl [HY]; · iexact HY
    isplitl [HR3]; · iexact HR3
    isplitl [HX3]; · iexact HX3
    isplitl [HX1]; · iexact HX1
    iexact Hlev
  iintro ⟨HY, HX3, HR3, HV3, HX1⟩
  iapply (sum_next a c 12 13 0 1 2 4 rfl rfl) $$ [HY HR4 HX4 HX2]
  · isplitl [HY]; · iexact HY
    isplitl [HR4]; · iexact HR4
    isplitl [HX4]; · iexact HX4
    isplitl [HX2]; · iexact HX2
    iexact Hlev
  iintro ⟨HY, HX4, HR4, HV4, HX2⟩
  iapply (sum_next a c 13 14 1 0 3 5 rfl rfl) $$ [HY HR5 HX5 HX3]
  · isplitl [HY]; · iexact HY
    isplitl [HR5]; · iexact HR5
    isplitl [HX5]; · iexact HX5
    isplitl [HX3]; · iexact HX3
    iexact Hlev
  iintro ⟨HY, HX5, HR5, HV5, HX3⟩
  iapply (sum_next a c 14 15 0 1 4 6 rfl rfl) $$ [HY HR6 HX6 HX4]
  · isplitl [HY]; · iexact HY
    isplitl [HR6]; · iexact HR6
    isplitl [HX6]; · iexact HX6
    isplitl [HX4]; · iexact HX4
    iexact Hlev
  iintro ⟨HY, HX6, HR6, HV6, HX4⟩
  iapply (sum_last a c 15 1 0 5 7 rfl rfl) $$ [HY HR7 HX7 HX5]
  · isplitl [HY]; · iexact HY
    isplitl [HR7]; · iexact HR7
    isplitl [HX7]; · iexact HX7
    isplitl [HX5]; · iexact HX5
    iexact Hlev
  iintro ⟨⟨HA, ⟨Ha1, Ha0⟩, ⟨Hp1, Hp0⟩, Hw, HO⟩, HX7, HR7, HV7, HX5⟩
  -- what is still under way
  iapply (step_waitSend a c 6 8) $$ [HS6 HO]
  · isplitl [HS6]; · iexact HS6
    isplitl [HO]; · iexact HO
    iexact Hlev
  iintro ⟨Hs0, HS6, HO⟩
  iapply (step_waitOut a c 6 0 8) $$ [HX6 HO]
  · isplitl [HX6]; · iexact HX6
    isplitl [HO]; · iexact HO
    iexact Hlev
  iintro ⟨HX6, Hg0, Hq0, HO⟩
  iapply (step_waitSend a c 7 8) $$ [HS7 HO]
  · isplitl [HS7]; · iexact HS7
    isplitl [HO]; · iexact HO
    iexact Hlev
  iintro ⟨Hs1, HS7, HO⟩
  iapply (step_waitOut a c 7 1 8) $$ [HX7 HO]
  · isplitl [HX7]; · iexact HX7
    isplitl [HO]; · iexact HO
    iexact Hlev
  iintro ⟨HX7, Hg1, Hq1, HO⟩
  unfold run
  rw [wp_ret]
  imodintro
  iapply Hk
  unfold BodyPost
  rw [eight (F := F) (fun k => some' (recvS k) c), eight (F := F) (fun k => hold (resS k) c fullShare (result a c k)),
    eight (F := F) (fun k => semVal (sendCell c k) 0), eight (F := F) (fun k => semVal (recvCell c k) 0)]
  isplitl [HA]; · iexact HA
  isplitl [Hw]; · iexact Hw
  isplitl [Ha0 Ha1]; · isplitl [Ha0] <;> iassumption
  isplitl [Hs0 Hs1]
  · isplitl [Hs0]; · iexact Hs0
    iexact Hs1
  isplitl [HR0 HR1 HR2 HR3 HR4 HR5 HR6 HR7]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6] <;> iassumption
  isplitl [Hg0 Hg1]; · isplitl [Hg0] <;> iassumption
  isplitl [HX0 HX1 HX2 HX3 HX4 HX5 HX6 HX7]
  · isplitl [HX0]; · iexact HX0
    isplitl [HX1]; · iexact HX1
    isplitl [HX2]; · iexact HX2
    isplitl [HX3]; · iexact HX3
    isplitl [HX4]; · iexact HX4
    isplitl [HX5]; · iexact HX5
    isplitl [HX6] <;> iassumption
  isplitl [Hb]; · iexact Hb
  isplitl [Hp0 Hp1]; · isplitl [Hp0] <;> iassumption
  isplitl [HS0 HS1 HS2 HS3 HS4 HS5 HS6 HS7]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6] <;> iassumption
  isplitl [HV0 HV1 HV2 HV3 HV4 HV5 HV6 HV7]
  · isplitl [HV0]; · iexact HV0
    isplitl [HV1]; · iexact HV1
    isplitl [HV2]; · iexact HV2
    isplitl [HV3]; · iexact HV3
    isplitl [HV4]; · iexact HV4
    isplitl [HV5]; · iexact HV5
    isplitl [HV6] <;> iassumption
  isplitl [Hq0 Hq1]; · isplitl [Hq0] <;> iassumption
  rw [← owing_end c]; unfold Owes; iexact HO

end Cert.KernelIdeal.Hand

end
-- ==== Proof.Memory.lean ====
/- A buffer whole and slot by slot, and the result's buffer block by block. -/
module

public import proofs.«01_k».proof.Proof.Body
public import Idealize.ShloMosaic.Lib.Ring
public import Idealize.ShloMosaic.Lib.ValueLayout

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

/-! ## Scratch buffers -/

theorem set_act (j : Fin 2) : (actS j).view.set = (actR j).set := (Memref.set_view_squeeze ..).trans (View.set_slice_whole _ _)
theorem set_send (j : Fin 2) : (sendS j).view.set = (pairR j).set := (Memref.set_view_squeeze ..).trans (View.set_slice_whole _ _)
theorem set_recv (k : Fin 8) : (recvS k).view.set = (recvR k).set := (Memref.set_view_squeeze ..).trans (View.set_slice_whole _ _)
theorem set_sum (j : Fin 2) : (sumS j).view.set = (pairR j).set := (Memref.set_view_squeeze ..).trans (View.set_slice_whole _ _)
theorem set_res (k : Fin 8) : (resS k).view.set = (resR k).set := (Memref.set_view_squeeze ..).trans (View.set_slice_whole _ _)

/-- Slots along the leading axis do not meet. -/
theorem slots_disjoint {s : Fin 3 → ℕ} {n : ℕ} (sz : Fin 3 → ℕ) (inb : ∀ (b : Fin n) a, (![b.val, 0, 0] : Fin 3 → ℕ) a + sz a ≤ s a)
    (h : sz 0 = 1) (b b' : Fin n) (hb : b ≠ b') :
    Disjoint (Rect.unit (s := ⟨3, s⟩) ![b.val, 0, 0] sz (inb b)).set (Rect.unit (s := ⟨3, s⟩) ![b'.val, 0, 0] sz (inb b')).set :=
  Ring.lead_disjoint (s := ⟨3, s⟩) (0 : Fin 3) 1 (fun b : Fin n => ![b.val, 0, 0]) sz inb (fun b => (Nat.one_mul _).symm) h b b' hb

/-- They cover the buffer. -/
theorem slots_cover {s : Fin 3 → ℕ} {n : ℕ} (sz : Fin 3 → ℕ) (inb : ∀ (b : Fin n) a, (![b.val, 0, 0] : Fin 3 → ℕ) a + sz a ≤ s a)
    (h : sz 0 = 1) (h1 : sz 1 = s 1) (h2 : sz 2 = s 2) (hn : n = s 0) :
    Finset.univ.biUnion (fun b : Fin n => (Rect.unit (s := ⟨3, s⟩) ![b.val, 0, 0] sz (inb b)).set) = Finset.univ :=
  Ring.lead_cover (s := ⟨3, s⟩) (0 : Fin 3) 1 (fun b : Fin n => ![b.val, 0, 0]) sz inb (fun b => (Nat.one_mul _).symm)
    (fun b a ha => by fin_cases a; exacts [absurd rfl ha, rfl, rfl]) h
    (fun a ha => by fin_cases a; exacts [absurd rfl ha, h1, h2]) (by rw [Nat.mul_one]; exact hn)

/-- A buffer held whole at some contents is its blocks, each at some contents. -/
theorem blocks_eq {ℓ : Loc nD τ sig} {n : ℕ} (f₀ : Buf (Elt F) ℓ) (I : Fin n → Finset (Idx ℓ)) (hd : ∀ b b', b ≠ b' → Disjoint (I b) (I b'))
    (hc : Finset.univ.biUnion I = Finset.univ) :
    (iprop(∃ f, ℓ ↦{fullShare} f) : sProp 𝕄) = bigSep Finset.univ fun b => iprop(∃ f, ℓ ↦[I b]{fullShare} f) := by
  have h : (iprop(∃ f, ℓ ↦{fullShare} f) : sProp 𝕄) ⊢ bigSep Finset.univ fun b => iprop(∃ f, ℓ ↦[I b]{fullShare} f) := by
    iintro ⟨%f, H⟩
    ihave H := (Entails.of_eq (Ring.pointsTo_blocks I hd hc f)) $$ H
    iapply (show (bigSep Finset.univ fun b => (ℓ ↦[I b]{fullShare} f : sProp 𝕄)) ⊢ bigSep Finset.univ fun b => iprop(∃ f, ℓ ↦[I b]{fullShare} f) from
      bigSep_mono fun b _ => by
        have hb : (ℓ ↦[I b]{fullShare} f : sProp 𝕄) ⊢ iprop(∃ f, ℓ ↦[I b]{fullShare} f) := by iintro H; iexists f; iexact H
        exact hb)
    iexact H
  exact BI.equiv_iff.mp ⟨h, Ring.pointsTo_blocks_join_exists I hd hc f₀⟩

variable (c : Dev nD)

/-- The buffer of the chunks fetched is its two slots. -/
theorem act_slots : (iprop(∃ f, (c : Thread nD τ).loc cc0_scratch0 ↦{fullShare} f) : sProp 𝕄) = iprop(some' (actS 0) c ∗ some' (actS 1) c) :=
  (blocks_eq (ℓ := (c : Thread nD τ).loc cc0_scratch0) (constant S2x256x2048 .f32 0x00000000#32) (fun j : Fin 2 => (actS j).view.set)
    (fun b b' h => by rw [set_act, set_act]; exact slots_disjoint S1x256x2048.size act_inb rfl b b' h)
    ((Finset.biUnion_congr rfl fun j _ => set_act j).trans (slots_cover S1x256x2048.size act_inb rfl rfl rfl rfl))).trans (bigSep_univ_two _)

/-- The buffer of the products to send is its two slots. -/
theorem send_slots : (iprop(∃ f, (c : Thread nD τ).loc cc0_scratch1 ↦{fullShare} f) : sProp 𝕄) = iprop(some' (sendS 0) c ∗ some' (sendS 1) c) :=
  (blocks_eq (ℓ := (c : Thread nD τ).loc cc0_scratch1) (constant S2x256x4096 .bf16 0x0000#16) (fun j : Fin 2 => (sendS j).view.set)
    (fun b b' h => by rw [set_send, set_send]; exact slots_disjoint S1x256x4096.size pair_inb rfl b b' h)
    ((Finset.biUnion_congr rfl fun j _ => set_send j).trans (slots_cover S1x256x4096.size pair_inb rfl rfl rfl rfl))).trans (bigSep_univ_two _)

/-- The buffer of the products received is its eight slots. -/
theorem recv_slots : (iprop(∃ f, (c : Thread nD τ).loc cc0_scratch2 ↦{fullShare} f) : sProp 𝕄) = bigSep Finset.univ fun k => some' (recvS k) c :=
  blocks_eq (ℓ := (c : Thread nD τ).loc cc0_scratch2) (constant S8x256x4096 .bf16 0x0000#16) (fun j : Fin 8 => (recvS j).view.set)
    (fun b b' h => by rw [set_recv, set_recv]; exact slots_disjoint S1x256x4096.size recv_inb rfl b b' h)
    ((Finset.biUnion_congr rfl fun j _ => set_recv j).trans (slots_cover S1x256x4096.size recv_inb rfl rfl rfl rfl))

/-- The buffer of the sums is its two slots. -/
theorem sum_slots : (iprop(∃ f, (c : Thread nD τ).loc cc0_scratch3 ↦{fullShare} f) : sProp 𝕄) = iprop(some' (sumS 0) c ∗ some' (sumS 1) c) :=
  (blocks_eq (ℓ := (c : Thread nD τ).loc cc0_scratch3) (constant S2x256x4096 .bf16 0x0000#16) (fun j : Fin 2 => (sumS j).view.set)
    (fun b b' h => by rw [set_sum, set_sum]; exact slots_disjoint S1x256x4096.size pair_inb rfl b b' h)
    ((Finset.biUnion_congr rfl fun j _ => set_sum j).trans (slots_cover S1x256x4096.size pair_inb rfl rfl rfl rfl))).trans (bigSep_univ_two _)

/-! ## The result's buffer -/

/-- Which block an element of the result lies in, and where in it. -/
def blockOf (i : S4x512x4096.Idx) : Fin 8 :=
  ⟨2 * (i 0).val + (i 1).val / 256, by have h0 : (i 0).val < 4 := (i 0).isLt; have h1 : (i 1).val < 512 := (i 1).isLt; omega⟩
def within (i : S4x512x4096.Idx) : S256x4096.Idx :=
  ix2 (⟨(i 1).val % 256, Nat.mod_lt _ (by decide)⟩ : Fin 256) (⟨(i 2).val, (i 2).isLt⟩ : Fin 4096)

/-- The element that block `k` has at `x`. -/
theorem emb_res (k : Fin 8) (x : S256x4096.Idx) (d : Fin 3) :
    (((resS k).view.emb x : S4x512x4096.Idx) d).val = (![k.val / 2, 256 * (k.val % 2) + (x 0).val, (x 1).val] : Fin 3 → ℕ) d := by
  obtain ⟨p, q, rfl⟩ : ∃ (p : Fin 256) (q : Fin 4096), x = ix2 p q := ⟨x 0, x 1, eq_ix2 x⟩
  show (((resR k).emb (Shape.reshapeEquiv _ (ix2 p q))) d).val = _
  rw [reshapeEquiv_ix2_1ab]
  fin_cases d
  · show k.val / 2 + 1 * 0 = k.val / 2; omega
  · show 256 * (k.val % 2) + 1 * p.val = 256 * (k.val % 2) + p.val; omega
  · show 0 + 1 * q.val = q.val; omega

theorem blockOf_emb (k : Fin 8) (x : S256x4096.Idx) : blockOf ((resS k).view.emb x) = k := by
  have hx : (x 0).val < 256 := (x 0).isLt
  refine Fin.ext ?_
  show 2 * (((resS k).view.emb x : S4x512x4096.Idx) 0).val + (((resS k).view.emb x : S4x512x4096.Idx) 1).val / 256 = _
  rw [emb_res, emb_res]
  show 2 * (k.val / 2) + (256 * (k.val % 2) + (x 0).val) / 256 = _
  omega
theorem within_emb (k : Fin 8) (x : S256x4096.Idx) : within ((resS k).view.emb x) = x := by
  have hx : (x 0).val < 256 := (x 0).isLt
  refine funext fun d => Fin.ext ?_
  fin_cases d
  · show (((resS k).view.emb x : S4x512x4096.Idx) 1).val % 256 = (x 0).val
    rw [emb_res]
    show (256 * (k.val % 2) + (x 0).val) % 256 = _
    omega
  · show (((resS k).view.emb x : S4x512x4096.Idx) 2).val = (x 1).val
    rw [emb_res]; rfl
theorem emb_within (i : S4x512x4096.Idx) : (resS (blockOf i)).view.emb (within i) = i := by
  have h1 : (i 1).val < 512 := (i 1).isLt
  refine funext fun d => Fin.ext ?_
  rw [emb_res]
  fin_cases d
  · show (2 * (i 0).val + (i 1).val / 256) / 2 = (i 0).val; omega
  · show 256 * ((2 * (i 0).val + (i 1).val / 256) % 2) + (i 1).val % 256 = (i 1).val; omega
  · rfl

theorem mem_res (k : Fin 8) (i : S4x512x4096.Idx) : i ∈ (resS k).view.set ↔ blockOf i = k := by
  constructor
  · intro h
    obtain ⟨x, -, rfl⟩ := Finset.mem_map.mp h
    exact blockOf_emb k x
  · rintro rfl
    have h := View.emb_mem_set (v := (resS (blockOf i)).view) (within i)
    rwa [emb_within] at h

theorem res_disjoint (k k' : Fin 8) (h : k ≠ k') :
    Disjoint ((resS k).view.set : Finset S4x512x4096.Idx) ((resS k').view.set : Finset S4x512x4096.Idx) :=
  Finset.disjoint_left.mpr fun i hi hi' => h (((mem_res k i).mp hi).symm.trans ((mem_res k' i).mp hi'))
theorem res_cover : Finset.univ.biUnion (β := S4x512x4096.Idx) (fun k : Fin 8 => (resS k).view.set) = Finset.univ :=
  Finset.eq_univ_of_forall fun i => Finset.mem_biUnion.mpr ⟨blockOf i, Finset.mem_univ _, (mem_res _ i).mpr rfl⟩

variable (a : Args F)

/-- What the region leaves in its result's buffer: block by block, the results. -/
def out : Vec F S4x512x4096 .bf16 := fun i => result a c (blockOf i) (within i)

/-- The result's buffer whole, at any contents, gives its blocks; -/
theorem res_split (f : Buf (Elt F) ((c : Thread nD τ).loc main_v2)) :
    ((c : Thread nD τ).loc main_v2 ↦{fullShare} f : sProp 𝕄) ⊢ bigSep Finset.univ fun k => some' (resS k) c := by
  refine (Entails.of_eq (Ring.pointsTo_blocks (ℓ := (c : Thread nD τ).loc main_v2) (fun k : Fin 8 => (resS k).view.set) res_disjoint res_cover f)).trans ?_
  refine bigSep_mono fun k _ => ?_
  have hb : ((c : Thread nD τ).loc main_v2 ↦[(resS k).view.set]{fullShare} f : sProp 𝕄) ⊢ some' (resS k) c := by
    unfold some'; iintro H; iexists f; iexact H
  exact hb

/-- and the blocks, each holding its result, give it whole. -/
theorem res_join : (bigSep Finset.univ fun k => hold (resS k) c fullShare (result a c k))
    ⊢ ((c : Thread nD τ).loc main_v2 ↦{fullShare} out c a : sProp 𝕄) := by
  refine BI.Entails.trans (bigSep_mono fun k _ => ?_)
    (Entails.of_eq (Ring.pointsTo_blocks (ℓ := (c : Thread nD τ).loc main_v2) (fun k : Fin 8 => (resS k).view.set) res_disjoint res_cover (out c a)).symm)
  have hb : hold (resS k) c fullShare (result a c k) ⊢ ((c : Thread nD τ).loc main_v2 ↦[(resS k).view.set]{fullShare} out c a : sProp 𝕄) := by
    unfold hold
    iintro ⟨%f, %hf, H⟩
    iapply (Entails.of_eq (pointsTo_congr (ℓ := (c : Thread nD τ).loc main_v2) (I := (resS k).view.set) (q := fullShare) (f := f) (g := out c a) fun i hi => by
      obtain ⟨x, -, rfl⟩ := Finset.mem_map.mp hi
      show (resS k).view.read (Elt F) f x = result a c (blockOf ((resS k).view.emb x)) (within ((resS k).view.emb x))
      rw [hf, blockOf_emb, within_emb]))
    iexact H
  exact hb

end Cert.KernelIdeal.Hand

end
-- ==== Proof.Region.lean ====
/- The kernel as one region of @main: what it is entered with, the obligation of its one grid point, what it leaves. -/
module

public import proofs.«01_k».proof.Proof.Memory
public import proofs.«01_k».proof.Proof.Gen.KernelIdeal.Points
public import proofs.«01_k».proof.Proof.Gen.KernelIdeal.Frame

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The buffers at each stage of @main -/

/-- Device `c`'s buffers at launch, -/
def V₀ (c : Dev nD) : Valuation τ sig (Elt F) := fun b => m (c, b)
/-- once the weights are rounded, -/
def V₁ (c : Dev nD) : Valuation τ sig (Elt F) := StableHlo.after hostOps0 (V₀ m c)

/-- What the kernel computes from: the activations as launched and the rounded weights. -/
def args : Args F where
  act c := m ((c : Thread nD τ).loc main_arg0)
  wts c := V₁ m c (Proc.devRef .tc main_v1)

/-- once the kernel has run, -/
def V₂ (c : Dev nD) : Valuation τ sig (Elt F) := Function.update (V₁ m c) (Proc.devRef .tc main_v2) (out c (args m))
/-- and at the end. -/
def V₃ (c : Dev nD) : Valuation τ sig (Elt F) := StableHlo.after hostOps1 (V₂ m c)

/-- A buffer that the rounding of the weights does not write is as launched. -/
theorem V₁_of_ne (c : Dev nD) {b : Ref sig .tc} (h : b ≠ main_v1) : V₁ m c (Proc.devRef .tc b) = m ((c : Thread nD τ).loc b) := by
  unfold V₁ hostOps0
  rw [StableHlo.after_cons, StableHlo.after_nil, StableHlo.unary_result_ne _ _ _ _ _ _ h]
  rfl
theorem V₁_wts (c : Dev nD) : V₁ m c (Proc.devRef .tc main_v1) = truncf .bf16 (m ((c : Thread nD τ).loc main_arg1)) bitsLt_bf16_f32 := by
  unfold V₁ hostOps0
  rw [StableHlo.after_cons, StableHlo.after_nil, StableHlo.unary_result]
  rfl
theorem V₂_of_ne (c : Dev nD) {b : Ref sig .tc} (h : b ≠ main_v2) : V₂ m c (Proc.devRef .tc b) = V₁ m c (Proc.devRef .tc b) :=
  Function.update_of_ne (StableHlo.devRef_ne_of_ne h) _ _
theorem V₂_out (c : Dev nD) : V₂ m c (Proc.devRef .tc main_v2) = out c (args m) := Function.update_self _ _ _
theorem V₃_of_ne (c : Dev nD) {b : Ref sig .tc} (h : b ≠ main_v3) : V₃ m c (Proc.devRef .tc b) = V₂ m c (Proc.devRef .tc b) := by
  unfold V₃ hostOps1
  rw [StableHlo.after_cons, StableHlo.after_nil, StableHlo.unary_result_ne _ _ _ _ _ _ h]
theorem V₃_out (c : Dev nD) : V₃ m c (Proc.devRef .tc main_v3) = extf .f32 (out c (args m)) bitsLt_bf16_f32 := by
  unfold V₃ hostOps1
  rw [StableHlo.after_cons, StableHlo.after_nil, StableHlo.unary_result]
  exact congrArg (extf .f32 · bitsLt_bf16_f32) (V₂_out m c)

/-! ## Which buffers the region is about -/

/-- The buffers that live as long as the program; those that no window stages; those the body addresses itself. -/
def bufs : Finset (DevRef τ sig) := (StableHlo.tcRefs τ sig).filter fun b => ¬ b.isScoped
def sides : Finset (DevRef τ sig) := {Proc.devRef .tc main_arg0, Proc.devRef .tc main_arg1, Proc.devRef .tc main_v2, Proc.devRef .tc main_v3}
def near : Finset (DevRef τ sig) := {Proc.devRef .tc main_arg0, Proc.devRef .tc main_v2}

theorem near_sub : near ⊆ sides := by decide
theorem arrs_eq : Pipeline.arrRefs (τ := τ) (pcfgs (F := F) 0).spec = {Proc.devRef .tc main_v1} := by
  show Pipeline.arrRefs (τ := τ) spec0 = _
  decide
theorem bufs_split (c : Dev nD) (W : Valuation τ sig (Elt F)) : (StableHlo.held (c : Thread nD τ) bufs W : sProp 𝕄)
    = iprop(StableHlo.held (c : Thread nD τ) (Pipeline.arrRefs (τ := τ) (pcfgs (F := F) 0).spec) W ∗ StableHlo.held (c : Thread nD τ) sides W) := by
  rw [arrs_eq]
  unfold StableHlo.held
  rw [show bufs = {Proc.devRef .tc main_v1} ∪ sides from by decide, bigSep_union (by decide)]
  rfl
theorem near_eq (c : Dev nD) (W : Valuation τ sig (Elt F)) : (StableHlo.held (c : Thread nD τ) near W : sProp 𝕄)
    = iprop(((c : Thread nD τ).loc main_arg0 ↦{fullShare} W (Proc.devRef .tc main_arg0))
      ∗ ((c : Thread nD τ).loc main_v2 ↦{fullShare} W (Proc.devRef .tc main_v2))) := by
  unfold StableHlo.held
  rw [bigSep_eq_bigSepL_of_eq [Proc.devRef .tc main_arg0, Proc.devRef .tc main_v2] (by decide) (by decide)]
  rfl
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-! ## The body's own semaphores -/

/-- The twenty semaphores that the body allocates: two for fetching, eight for sending, eight for receiving, two for writing. -/
def osem : (Fin 2 ⊕ Fin 8) ⊕ (Fin 8 ⊕ Fin 2) → SemLoc sig
  | .inl (.inl j) => .dma (actQ j)
  | .inl (.inr k) => .dma (sendQ k)
  | .inr (.inl k) => .dma (recvQ k)
  | .inr (.inr j) => .dma (sumQ j)

theorem osem_facts : Pipeline.OwnSemFacts spec0 osem := by decide

theorem ownSems_eq (c : Dev nD) : (Pipeline.ownSems0 osem c : sProp 𝕄) = iprop(
    ((semVal ((c : Thread nD τ), .dma (actQ 0)) 0 ∗ semVal ((c : Thread nD τ), .dma (actQ 1)) 0) ∗ bigSep Finset.univ (fun k => semVal (sendCell c k) 0))
    ∗ (bigSep Finset.univ (fun k => semVal (recvCell c k) 0)
      ∗ (semVal ((c : Thread nD τ), .dma (sumQ 0)) 0 ∗ semVal ((c : Thread nD τ), .dma (sumQ 1)) 0))) := by
  unfold Pipeline.ownSems0
  rw [bigSep_univ_sum, bigSep_univ_sum, bigSep_univ_sum, bigSep_univ_two, bigSep_univ_two]
  rfl

/-! ## The region's protocol state -/

section Protocol

variable (a : Args F)

/-- What device `c` brings for sending product `k` while its cell is still closed, -/
def Dormant (c : Dev nD) (k : Fin 8) : sProp 𝕄 :=
  iprop(Inv a (sendCell c k) ∗ Inv a (recvCell (pr c) k) ∗ openTok ER (sendCell c k)
    ∗ dutyTok ER (sendCell c k) 0 () ∗ dutyTok ER (recvCell (pr c) k) 0 ())
/-- and for receiving product `k`. -/
def Resting (c : Dev nD) (k : Fin 8) : sProp 𝕄 :=
  iprop(Inv a (recvCell c k) ∗ openTok ER (recvCell c k) ∗ cred (tallyAt (recvCell c k) () N))
/-- All it brings to the region, -/
def Tk (c : Dev nD) : sProp 𝕄 :=
  iprop(BarRes a c ∗ bigSep Finset.univ (Dormant a c) ∗ bigSep Finset.univ (Resting a c))
/-- and that once the cells are open. -/
def Xk (c : Dev nD) : sProp 𝕄 :=
  iprop(BarRes a c ∗ bigSep Finset.univ (SendRes a c) ∗ bigSep Finset.univ (fun k => iprop(RecvRes a c k ∗ reached ER (recvCell c k) 0))
    ∗ levAts L lv
    ∗ (semVal ((c : Thread nD τ), .dma (actQ 0)) 0 ∗ semVal ((c : Thread nD τ), .dma (actQ 1)) 0)
    ∗ (semVal ((c : Thread nD τ), .dma (sumQ 0)) 0 ∗ semVal ((c : Thread nD τ), .dma (sumQ 1)) 0))
/-- What is left of it: the barrier's counter, back at zero. -/
def Yk (c : Dev nD) : sProp 𝕄 := semVal (barCell c) 0

/-- Opening the cell of one product sent, -/
theorem open_send (c : Dev nD) (k : Fin 8) :
    iprop(Dormant a c k ∗ semVal (sendCell c k) 0) ⊢ (|={Set.univ}=> SendRes a c k : sProp 𝕄) := by
  unfold Dormant SendRes
  iintro ⟨⟨HI, #HP, Ho, HtS, HtR⟩, Hv⟩
  ihave HI := (Entails.of_eq (show (Inv a (sendCell c k) : sProp 𝕄) = iprop(∃ κ : ℕ, cellInv ER (Rd a) κ (sendCell c k)) from rfl)) $$ HI
  icases HI with ⟨%κ, #HI⟩
  imod (Rounds.cell_open ER (Rd a) (g := sendCell c k) (Set.mem_univ κ)) $$ [Ho Hv] with ⟨Hat, Hr⟩
  · isplitr; · iexact HI
    isplitl [Ho] <;> iassumption
  imodintro
  isplitr; · unfold Inv; iexists κ; iexact HI
  isplitr; · iexact HP
  isplitl [Hat]; · iexact Hat
  isplitl [Hr]; · iexact Hr
  isplitl [HtS] <;> iassumption
/-- and of one received. -/
theorem open_recv (c : Dev nD) (k : Fin 8) :
    iprop(Resting a c k ∗ semVal (recvCell c k) 0) ⊢ (|={Set.univ}=> iprop(RecvRes a c k ∗ reached ER (recvCell c k) 0) : sProp 𝕄) := by
  unfold Resting RecvRes
  iintro ⟨⟨HI, Ho, Hc⟩, Hv⟩
  ihave HI := (Entails.of_eq (show (Inv a (recvCell c k) : sProp 𝕄) = iprop(∃ κ : ℕ, cellInv ER (Rd a) κ (recvCell c k)) from rfl)) $$ HI
  icases HI with ⟨%κ, #HI⟩
  imod (Rounds.cell_open ER (Rd a) (g := recvCell c k) (Set.mem_univ κ)) $$ [Ho Hv] with ⟨Hat, Hr⟩
  · isplitr; · iexact HI
    isplitl [Ho] <;> iassumption
  imodintro
  isplitr [Hr]
  · isplitr; · unfold Inv; iexists κ; iexact HI
    isplitl [Hat] <;> iassumption
  iexact Hr

/-- Every cell of the region opened as it is entered. -/
theorem open_all (c : Dev nD) : iprop(Tk a c ∗ Pipeline.ownSems0 osem c ∗ levAts L lv) ⊢ (|={Set.univ}=> Xk a c : sProp 𝕄) := by
  have hs : (bigSep Finset.univ fun k => iprop(Dormant a c k ∗ semVal (sendCell c k) 0)) ⊢ (|={Set.univ}=> bigSep Finset.univ (SendRes a c) : sProp 𝕄) :=
    (bigSep_mono fun k _ => open_send a c k).trans (bigSep_fupd _ _)
  have hr : (bigSep Finset.univ fun k => iprop(Resting a c k ∗ semVal (recvCell c k) 0))
      ⊢ (|={Set.univ}=> bigSep Finset.univ (fun k => iprop(RecvRes a c k ∗ reached ER (recvCell c k) 0)) : sProp 𝕄) :=
    (bigSep_mono fun k _ => open_recv a c k).trans (bigSep_fupd _ _)
  rw [ownSems_eq]
  unfold Tk Xk
  iintro ⟨⟨HB, HD, HR⟩, ⟨⟨Hact, Hsend⟩, ⟨Hrecv, Hsum⟩⟩, Hlev⟩
  imod hs $$ [HD Hsend] with HS
  · iapply (Entails.of_eq (bigSep_sep' _ _ _).symm); isplitl [HD] <;> iassumption
  imod hr $$ [HR Hrecv] with HV
  · iapply (Entails.of_eq (bigSep_sep' _ _ _).symm); isplitl [HR] <;> iassumption
  imodintro
  isplitl [HB]; · iexact HB
  isplitl [HS]; · iexact HS
  isplitl [HV]; · iexact HV
  isplitl [Hlev]; · iexact Hlev
  isplitl [Hact] <;> iassumption

end Protocol

/-! ## The region's data -/

/-- Before the one point: what the region is entered with. -/
def Before (c : Dev nD) : sProp 𝕄 :=
  iprop(Pipeline.scopedRest spec0 c ∗ (∃ r, prngReg c r) ∗ StableHlo.held (c : Thread nD τ) near (V₁ m c) ∗ Xk (args m) c)
/-- After it: the same buffers with the result written, and every counter back. -/
def After (c : Dev nD) : sProp 𝕄 :=
  iprop(Pipeline.scopedRest spec0 c ∗ (∃ r, prngReg c r) ∗ StableHlo.held (c : Thread nD τ) near (V₂ m c) ∗ Pipeline.ownSems0 osem c ∗ Yk c)

def dat (c : Dev nD) : Dat τ (Elt F) Unit ℕ UU ℕ cfg0 c where
  A w := V₁ m c (Proc.devRef .tc (Pipeline.arrRef spec0 w))
  after := fun
    | 0 => fun _ => (args m).wts c
    | ⟨_ + 1, h⟩ => absurd h (Nat.not_lt.2 (Nat.le_add_left _ _))
  Φ t := if t.val = 0 then Before m c else After m c
  q _ := fullShare
  owed t := if t.val = 0 then owed c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

theorem owed_zero (c : Dev nD) : (pdats m 0 c).owed 0 = owed c := by
  show (if ((0 : Fin (cfg0.N + 1)).val = 0) then owed c else 0) = owed c; exact if_pos rfl
theorem owed_first (c : Dev nD) : (dat m c).owed t0_0.castSucc = owed c := by
  show (if (t0_0.castSucc : Fin (cfg0.N + 1)).val = 0 then owed c else 0) = owed c; exact if_pos rfl
theorem owed_last (c : Dev nD) : (pdats m 0 c).owed (Fin.last _) = 0 := by
  show (if (Fin.last cfg0.N).val = 0 then owed c else 0) = 0
  rw [Fin.val_last, if_neg (by rw [show cfg0.N = 1 from N_0]; decide)]

/-- The one window is the whole array of weights. -/
theorem block_eq (c : Dev nD) (t : Fin cfg0.N) : (dat m c).blockOf 0 t = (args m).wts c := by
  funext x
  show (V₁ m c (Proc.devRef .tc main_v1)) (((cfg0.win 0).blk t).view.emb x) = (V₁ m c (Proc.devRef .tc main_v1)) x
  refine congrArg _ (funext fun d => Fin.ext ?_)
  exact Pipeline.Window.rect_emb_val_of_index_zero (cfg0.win 0) t d rfl x

/-- The body finds the weights in the window's buffer. -/
theorem before_eq (c : Dev nD) (t : Fin cfg0.N) (d) : (dat m c).before 0 t d = (args m).wts c :=
  ((dat m c).before_fetched 0 t (fetch0_0 t) d).trans (block_eq m c t)

theorem owesAt_intro {c : Dev nD} (dat : Dat τ (Elt F) Unit ℕ UU ℕ cfg0 c) (t : Fin (cfg0.N + 1))
    (O : CellTallies nD τ sig Unit) (h0 : dat.owed t = O) (W : Waits sig Unit) (hr : dat.recorded t = Set.univ := by first | rfl | skip) :
    (owes (c : Thread nD τ) O W : sProp 𝕄) ⊢ (dat.owesAt () t : sProp 𝕄) := by
  unfold Dat.owesAt Pipeline.owesWithin Dat.bound; rw [h0, hr]
  iintro HO; iexists W; isplitr; · ipureintro; exact fun _ _ => Or.inl trivial
  iexact HO
theorem owesAt_elim {c : Dev nD} (dat : Dat τ (Elt F) Unit ℕ UU ℕ cfg0 c) (t : Fin (cfg0.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

/-- What the region is entered with is what the body starts from. -/
theorem pre_intro (c : Dev nD) (W : Waits sig Unit) :
    iprop(Before m c ∗ owes (c : Thread nD τ) (owed c) W ∗ Wts (args m) c) ⊢ iprop(BodyPre (args m) c W ∗ ∃ r, prngReg c r) := by
  unfold Before Xk BodyPre Slots Act
  rw [scopedRest0_eq, act_slots, send_slots, recv_slots, sum_slots, near_eq, V₁_of_ne m c (show main_arg0 ≠ main_v1 by decide)]
  iintro ⟨⟨⟨Ha, Hs, Hv, Hg⟩, Hp, ⟨HA, Hout⟩, HB, HS, HR, Hlev, Hq, Hw⟩, HO, HW⟩
  ihave HR := (Entails.of_eq (bigSep_sep' _ _ _)) $$ HR
  icases HR with ⟨HR, Hrd⟩
  ihave HX := (res_split c _) $$ Hout
  isplitr [Hp]
  · isplitl [HB]; · iexact HB
    isplitl [Hv Hrd]; · iapply (Entails.of_eq (bigSep_sep' _ _ _).symm); isplitl [Hv] <;> iassumption
    isplitl [HS]; · iexact HS
    isplitl [HR]; · iexact HR
    isplitl [HO]; · iexact HO
    isplitl [Hlev]; · iexact Hlev
    isplitl [HA]; · iexact HA
    isplitl [HW]; · iexact HW
    isplitl [Ha]; · iexact Ha
    isplitl [Hs]; · iexact Hs
    isplitl [Hg]; · iexact Hg
    isplitl [HX]; · iexact HX
    isplitl [Hq] <;> iassumption
  iexact Hp

/-- What the body ends with is what the region leaves. -/
theorem post_elim (c : Dev nD) : iprop(BodyPost (args m) c ∗ ∃ r, prngReg c r)
    ⊢ iprop(After m c ∗ (∃ W, owes (c : Thread nD τ) (0 : CellTallies nD τ sig Unit) W) ∗ Wts (args m) c) := by
  unfold After BodyPost Act Yk
  rw [scopedRest0_eq, act_slots, send_slots, recv_slots, sum_slots, near_eq, V₂_of_ne m c (show main_arg0 ≠ main_v2 by decide),
    V₁_of_ne m c (show main_arg0 ≠ main_v1 by decide), V₂_out, ownSems_eq]
  iintro ⟨⟨HA, HW, Ha, Hs, Hv, Hg, HX, Hb, Hq, HS, HR, Hw, HO⟩, Hp⟩
  ihave Hout := (res_join c (args m)) $$ HX
  isplitr [HO HW]
  · isplitl [Ha Hs Hv Hg]
    · isplitl [Ha]; · iexact Ha
      isplitl [Hs]; · iexact Hs
      isplitl [Hv] <;> iassumption
    isplitl [Hp]; · iexact Hp
    isplitl [HA Hout]
    · isplitl [HA]; · iexact HA
      iexact Hout
    isplitr [Hb]
    · isplitl [Hq HS]; · isplitl [Hq] <;> iassumption
      isplitl [HR] <;> iassumption
    iexact Hb
  isplitl [HO] <;> iassumption

/-- The obligation of the region's one point. -/
theorem body_obligation (c : Dev nD) : BodyObligation (dat m c) (defs₀ (F := F)) 𝒱₀ () Set.univ := fun t => by
  obtain rfl := fin_N0 t
  rw [bigSep_W0, bigSep_W0]
  rw [show (dat m c).Φ t0_0.castSucc = Before m c from rfl, show (dat m c).Φ t0_0.succ = After m c from rfl]
  have hw : (iprop(∃ d, owns (c : Thread nD τ) ((cfg0.win 0).stage (cfg0.slots t0_0 0)) fullShare ((dat m c).before 0 t0_0 d)) : sProp 𝕄) ⊢ Wts (args m) c := by
    unfold Wts
    iintro ⟨%d, H⟩
    ihave H := (Entails.of_eq (congrArg (owns (c : Thread nD τ) ((cfg0.win 0).stage (cfg0.slots t0_0 0)) fullShare) (before_eq m c t0_0 d))) $$ H
    iapply (Entails.of_eq (owns_whole (c : Thread nD τ) cc0_stg0_0 fullShare ((args m).wts c))) $$ H
  have hw' : (Wts (args m) c : sProp 𝕄) ⊢ owns (c : Thread nD τ) ((cfg0.win 0).stage (cfg0.slots t0_0 0)) fullShare ((dat m c).after 0 t0_0) :=
    Entails.of_eq (owns_whole (c : Thread nD τ) cc0_stg0_0 fullShare ((args m).wts c)).symm
  rw [show (defs₀ (F := F)) Proc.tc cfg0.body (cfg0.bodyArgs t0_0 (cfg0.slots t0_0)) = body (F := F) from bodyAt0_eq t0_0]
  iintro ⟨HB, HO, Hw⟩
  ihave HW := hw $$ Hw
  ihave HO := (owesAt_elim (dat m c) _ (owed c) (owed_first m c)) $$ HO
  icases HO with ⟨%W, HO⟩
  ihave H := (pre_intro m c W) $$ [HB HO HW]
  · isplitl [HB]; · iexact HB
    isplitl [HO] <;> iassumption
  icases H with ⟨HB, Hp⟩
  iapply (body_run (args m) c W _)
  isplitl [HB]; · iexact HB
  iintro HB
  ihave H := (post_elim m c) $$ [HB Hp]
  · isplitl [HB] <;> iassumption
  icases H with ⟨HA, ⟨%W', HO⟩, HW⟩
  isplitl [HA]; · iexact HA
  isplitl [HO]; · iapply (owesAt_intro (dat m c) t0_0.succ 0 (owed_last m c) W'); iexact HO
  iapply hw' $$ HW

end Cert.KernelIdeal.Hand

end
-- ==== Proof.Launch.lean ====
/- What the launch hands out: the cells of the talk with their invariants, the tokens of the copies, and the credit that each
   device waits with. -/
module

public import proofs.«01_k».proof.Proof.Region

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families of cells, the same on every device -/

section Families

variable {K : Type} [Fintype K] (f : K → SemLoc sig) (hf : Function.Injective f)

/-- The cell that device `c` has at semaphore `f k`, as an embedding of the pairs. -/
def cellEmb : Dev nD × K ↪ GSem nD τ sig :=
  ⟨fun x => ((x.1 : Thread nD τ), f x.2), fun _ _ h =>
    Prod.ext (congrArg (fun g : GSem nD τ sig => g.1.1) h) (hf (congrArg Prod.snd h))⟩
/-- All of them. -/
def cells : Finset (GSem nD τ sig) := Finset.univ.map (cellEmb f hf)

theorem mem_cells (c : Dev nD) (k : K) : ((c : Thread nD τ), f k) ∈ cells f hf :=
  Finset.mem_map_of_mem (cellEmb f hf) (Finset.mem_univ (c, k))
/-- A resource per cell is a resource per device and semaphore. -/
theorem bigSep_cells (Φ : GSem nD τ sig → sProp 𝕄) :
    bigSep (cells f hf) Φ = bigSep Finset.univ fun c : Dev nD => bigSep Finset.univ fun k => Φ ((c : Thread nD τ), f k) := by
  unfold cells
  rw [bigSep_map, bigSep_univ_prod]
  rfl

end Families

/-- The semaphores whose cells are open from launch, those that the region opens, and all. -/
def openSem (_ : Unit) : SemLoc sig := .reg barQ
def shutSem : Fin 8 ⊕ Fin 8 → SemLoc sig
  | .inl k => .dma (sendQ k)
  | .inr k => .dma (recvQ k)
def allSem : Unit ⊕ (Fin 8 ⊕ Fin 8) → SemLoc sig := Sum.elim openSem shutSem

theorem openSem_inj : Function.Injective openSem := fun _ _ _ => rfl
theorem shutSem_inj : Function.Injective shutSem := by decide
theorem allSem_inj : Function.Injective allSem := by decide

abbrev openCells : Finset (GSem nD τ sig) := cells openSem openSem_inj
abbrev shutCells : Finset (GSem nD τ sig) := cells shutSem shutSem_inj
/-- One duty on each cell. -/
def toks : Finset (GSem nD τ sig × ℕ × Unit) :=
  (cells allSem allSem_inj).map ⟨fun g => (g, 0, ()), fun _ _ h => congrArg Prod.fst h⟩

theorem cells_disjoint : Disjoint openCells shutCells := by
  rw [Finset.disjoint_left]
  rintro g h₁ h₂
  obtain ⟨x, -, rfl⟩ := Finset.mem_map.mp h₁
  obtain ⟨y, -, h⟩ := Finset.mem_map.mp h₂
  exact (by decide : ∀ k, shutSem k ≠ .reg barQ) y.2 (congrArg Prod.snd h)

theorem bigSep_unit (Φ : Unit → sProp 𝕄) : bigSep Finset.univ Φ = Φ () := by
  rw [show (Finset.univ : Finset Unit) = {()} from rfl, bigSep_singleton]

/-- A resource per closed cell: a device's eight to send with and eight to receive with. -/
theorem bigSep_shut (Φ : GSem nD τ sig → sProp 𝕄) : bigSep shutCells Φ
    = bigSep Finset.univ fun c : Dev nD => iprop(bigSep Finset.univ (fun k => Φ (sendCell c k)) ∗ bigSep Finset.univ (fun k => Φ (recvCell c k))) := by
  rw [bigSep_cells]
  exact bigSep_congr fun c _ => by rw [bigSep_univ_sum]; rfl
theorem bigSep_open (Φ : GSem nD τ sig → sProp 𝕄) : bigSep openCells Φ = bigSep Finset.univ fun c : Dev nD => Φ (barCell c) := by
  rw [bigSep_cells]
  exact bigSep_congr fun c _ => by rw [bigSep_unit]; rfl

/-! ## The records that every device may consult -/

variable (a : Args F)

/-- Every cell's invariant, and that every barrier cell is at its round 0. -/
def records : sProp 𝕄 := iprop(bigSep (openCells ∪ shutCells) (Inv a) ∗ bigSep openCells fun g => reached ER g 0)
instance records_persistent : BI.Persistent (records a) := by unfold records; infer_instance

theorem record_inv {g : GSem nD τ sig} (h : g ∈ openCells ∪ shutCells) : records a ⊢ Inv a g := by
  have he : (bigSep (openCells ∪ shutCells) (Inv a) : sProp 𝕄) ⊢ Inv a g := bigSep_elim h
  unfold records
  iintro ⟨H, -⟩
  iapply he $$ H
theorem record_bar (c : Dev nD) : records a ⊢ Inv a (barCell c) :=
  record_inv a (Finset.mem_union_left _ (mem_cells openSem openSem_inj c ()))
theorem record_send (c : Dev nD) (k : Fin 8) : records a ⊢ Inv a (sendCell c k) :=
  record_inv a (Finset.mem_union_right _ (mem_cells shutSem shutSem_inj c (.inl k)))
theorem record_recv (c : Dev nD) (k : Fin 8) : records a ⊢ Inv a (recvCell c k) :=
  record_inv a (Finset.mem_union_right _ (mem_cells shutSem shutSem_inj c (.inr k)))
theorem record_reached (c : Dev nD) : records a ⊢ reached ER (barCell c) 0 := by
  have he : (bigSep openCells (fun g => reached ER g 0) : sProp 𝕄) ⊢ reached ER (barCell c) 0 := bigSep_elim (mem_cells openSem openSem_inj c ())
  unfold records
  iintro ⟨-, H⟩
  iapply he $$ H

/-! ## What goes to one device -/

/-- Its barrier position, its rights to open its cells, and the tokens of the duties that it pays. -/
def Share (c : Dev nD) : sProp 𝕄 :=
  iprop(atPos ER (barCell c) 0 ∅ 0
    ∗ (bigSep Finset.univ (fun k => openTok ER (sendCell c k)) ∗ bigSep Finset.univ (fun k => openTok ER (recvCell c k)))
    ∗ (dutyTok ER (barCell (pr c)) 0 () ∗ bigSep Finset.univ (fun k => dutyTok ER (sendCell c k) 0 ())
      ∗ bigSep Finset.univ (fun k => dutyTok ER (recvCell (pr c) k) 0 ())))
/-- The credit that it waits with. -/
def Credits (c : Dev nD) : sProp 𝕄 :=
  iprop(cred (tallyAt (barCell c) () 1) ∗ bigSep Finset.univ (fun k => cred (tallyAt (recvCell c k) () N)))

theorem dormant_intro (c : Dev nD) (k : Fin 8) :
    iprop(records a ∗ (openTok ER (sendCell c k) ∗ dutyTok ER (sendCell c k) 0 () ∗ dutyTok ER (recvCell (pr c) k) 0 ())) ⊢ Dormant a c k := by
  unfold Dormant
  iintro ⟨#HR, Ho, Hs, Hv⟩
  isplitr; · iapply (record_send a c k); iexact HR
  isplitr; · iapply (record_recv a (pr c) k); iexact HR
  isplitl [Ho]; · iexact Ho
  isplitl [Hs] <;> iassumption
theorem resting_intro (c : Dev nD) (k : Fin 8) :
    iprop(records a ∗ (openTok ER (recvCell c k) ∗ cred (tallyAt (recvCell c k) () N))) ⊢ Resting a c k := by
  unfold Resting
  iintro ⟨#HR, Ho, Hc⟩
  isplitr; · iapply (record_recv a c k); iexact HR
  isplitl [Ho] <;> iassumption

/-- With the records, a device's share and credit are what it brings to the region. -/
theorem talk_intro (c : Dev nD) : iprop(records a ∗ Share c ∗ Credits c) ⊢ Tk a c := by
  have hd := bigSep_with_persistent (S := Finset.univ) (R := records a) (Ψ := Dormant a c) fun k _ => dormant_intro a c k
  have hr := bigSep_with_persistent (S := Finset.univ) (R := records a) (Ψ := Resting a c) fun k _ => resting_intro a c k
  rw [bigSep_sep', bigSep_sep'] at hd
  rw [bigSep_sep'] at hr
  unfold Share Credits Tk BarRes
  iintro ⟨#HR, ⟨Hat, ⟨HoS, HoR⟩, HtB, HtS, HtR⟩, HcB, HcR⟩
  isplitl [Hat HtB HcB]
  · isplitr; · iapply (record_bar a c); iexact HR
    isplitr; · iapply (record_bar a (pr c)); iexact HR
    isplitl [Hat]; · iexact Hat
    isplitr; · iapply (record_reached a (pr c)); iexact HR
    isplitl [HtB] <;> iassumption
  isplitl [HoS HtS HtR]
  · iapply hd
    isplitr; · iexact HR
    isplitl [HoS]; · iexact HoS
    isplitl [HtS] <;> iassumption
  · iapply hr
    isplitr; · iexact HR
    isplitl [HoR] <;> iassumption

/-! ## The tokens, each to the device that pays with it -/

/-- A device and the other of its pair change places. -/
def swap : Dev nD ≃ Dev nD := ⟨pr, pr, pr_pr, pr_pr⟩

theorem toks_eq : bigSep toks (fun x => (dutyTok ER x.1 x.2.1 x.2.2 : sProp 𝕄))
    = bigSep Finset.univ fun c : Dev nD => iprop(dutyTok ER (barCell c) 0 () ∗ bigSep Finset.univ (fun k => dutyTok ER (sendCell c k) 0 ())
        ∗ bigSep Finset.univ (fun k => dutyTok ER (recvCell c k) 0 ())) := by
  unfold toks
  rw [bigSep_map, bigSep_cells]
  exact bigSep_congr fun c _ => by rw [bigSep_univ_sum, bigSep_univ_sum, bigSep_unit]; rfl

theorem toks_dealt : bigSep toks (fun x => (dutyTok ER x.1 x.2.1 x.2.2 : sProp 𝕄))
    = bigSep Finset.univ fun c : Dev nD => iprop(dutyTok ER (barCell (pr c)) 0 () ∗ bigSep Finset.univ (fun k => dutyTok ER (sendCell c k) 0 ())
        ∗ bigSep Finset.univ (fun k => dutyTok ER (recvCell (pr c) k) 0 ())) := by
  rw [toks_eq, bigSep_sep', bigSep_sep', bigSep_sep', bigSep_sep',
    bigSep_univ_equiv swap (fun c : Dev nD => (dutyTok ER (barCell c) 0 () : sProp 𝕄)),
    bigSep_univ_equiv swap (fun c : Dev nD => (bigSep Finset.univ (fun k => dutyTok ER (recvCell c k) 0 ()) : sProp 𝕄))]
  rfl

/-! ## The launch credit -/

theorem pair_iff (d c : Dev nD) : c = pr d ↔ d = pr c := ⟨fun h => by rw [h, pr_pr], fun h => by rw [h, pr_pr]⟩
theorem dev_of_cell {c d : Dev nD} {q q' : SemLoc sig} (h : (((c : Thread nD τ), q) : GSem nD τ sig) = ((d : Thread nD τ), q')) : c = d :=
  congrArg (fun g : GSem nD τ sig => g.1.1) h

/-- Only the other device owes a device's barrier cell, -/
theorem owed_bar (d c : Dev nD) : owed d (barCell c) () = if d = pr c then 1 else 0 := by
  have h0 : owing d 0 (barCell c) () = 0 := by
    by_contra h
    obtain ⟨k, hk⟩ := owing_pos (Nat.pos_of_ne_zero h)
    exact recv_ne_bar k (congrArg Prod.snd hk).symm
  unfold owed
  rw [Pi.add_apply, Finsupp.add_apply, h0, Nat.zero_add, tallyAt_apply]
  by_cases h : d = pr c
  · rw [if_pos h, if_pos ⟨by rw [(pair_iff d c).mpr h], rfl⟩]
  · rw [if_neg h, if_neg fun e => h ((pair_iff d c).mp (dev_of_cell e.1))]
/-- and only it owes its receive cells. -/
theorem owed_recv (d c : Dev nD) (k : Fin 8) : owed d (recvCell c k) () = if d = pr c then N else 0 := by
  unfold owed owing
  rw [Pi.add_apply, Finsupp.add_apply, Finset.sum_apply, Finsupp.finset_sum_apply,
    tallyAt_ne_cell (fun h => recv_ne_bar k (congrArg Prod.snd h)), Finsupp.zero_apply, Nat.add_zero, Finset.sum_eq_single k]
  · rw [if_pos (Nat.zero_le _), tallyAt_apply]
    by_cases h : d = pr c
    · rw [if_pos h, if_pos ⟨by rw [(pair_iff d c).mpr h], rfl⟩]
    · rw [if_neg h, if_neg fun e => h ((pair_iff d c).mp (dev_of_cell e.1))]
  · intro j _ hj
    rw [if_pos (Nat.zero_le _), tallyAt_apply, if_neg fun e => hj ?_]
    exact ((by decide : Function.Injective fun k : Fin 8 => (SemLoc.dma (recvQ k) : SemLoc sig)) (congrArg Prod.snd e.1)).symm
  · exact fun h => absurd (Finset.mem_univ k) h

/-- The launch credit of a cell that only the other device owes. -/
theorem launch_cell (c : Dev nD) (sm : SemLoc sig) (n : ℕ) (h : ∀ d, owed d ((c : Thread nD τ), sm) () = if d = pr c then n else 0) :
    tallyOn ((c : Thread nD τ), sm) (launchCredit (Pipeline.owing owed) 0 ((c : Thread nD τ), sm))
      = (tallyAt ((c : Thread nD τ), sm) () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (pr c) fun _ => n,
    if_pos (Finset.mem_univ _)]

def recvEmb : Fin 8 ↪ SemLoc sig := ⟨fun k => .dma (recvQ k), by decide⟩

/-- The launch credit of a device is what it waits with. -/
theorem credits_of_launch (c : Dev nD) : (Pipeline.launchCred owed c : sProp 𝕄) ⊢ Credits c := by
  unfold Pipeline.launchCred Credits
  rw [bigSep_univ_at _ (SemLoc.reg barQ), launch_cell c _ 1 fun d => owed_bar d c]
  refine sep_mono_right ?_
  have he : (bigSep Finset.univ fun k => cred (tallyAt (recvCell c k) () N) : sProp 𝕄)
      = bigSep (Finset.univ.map recvEmb) fun sm => cred (tallyOn ((c : Thread nD τ), sm) (launchCredit (Pipeline.owing owed) 0 ((c : Thread nD τ), sm))) := by
    rw [bigSep_map]
    exact bigSep_congr fun k _ => congrArg cred (launch_cell c _ N fun d => owed_recv d c k).symm
  rw [he]
  refine bigSep_subset fun sm h => ?_
  obtain ⟨k, -, rfl⟩ := Finset.mem_map.mp h
  exact Finset.mem_erase.mpr ⟨recv_ne_bar k, Finset.mem_univ _⟩

end Cert.KernelIdeal.Hand

end
-- ==== Proof.Run.lean ====
/- The run of @main on the eight devices: the weights rounded, the kernel's region, the result widened. -/
module

public import proofs.«01_k».proof.Proof.Launch

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ
local notation "ℍ" => Pipeline.HostSeg (Name := ℕ) (U := UU) (pcfgs (F := F)) defs₀ 𝒱₀ L lv

variable (m : (ℓ : Loc nD τ sig) → Buf (Elt F) ℓ) (ρ : Dev nD → PrngReg)

/-! ## The three segments -/

theorem ops0_sub : ∀ op ∈ (hostOps0 : List (HloOp τ sig (Elt F))), op.bufs ⊆ bufs := fun op h => by
  simp only [List.mem_singleton] at h; subst h
  show ({Proc.devRef .tc main_arg1, Proc.devRef .tc main_v1} : Finset (DevRef τ sig)) ⊆ bufs; decide
theorem ops1_sub : ∀ op ∈ (hostOps1 : List (HloOp τ sig (Elt F))), op.bufs ⊆ bufs := fun op h => by
  simp only [List.mem_singleton] at h; subst h
  show ({Proc.devRef .tc main_v2, Proc.devRef .tc main_v3} : Finset (DevRef τ sig)) ⊆ bufs; decide

/-- What a device carries beside its buffers up to the region, -/
def Along (c : Dev nD) : sProp 𝕄 := iprop(Tk (args m) c ∗ (∃ r, prngReg c r) ∗ ∃ W, owes (c : Thread nD τ) (owed c) W)
/-- and after it. -/
def Left (c : Dev nD) : sProp 𝕄 := iprop(semVal (barCell c) 0 ∗ ∃ W, owes (c : Thread nD τ) (0 : CellTallies nD τ sig Unit) W)

/-- The weights are rounded. -/
def seg0 : ℍ := Pipeline.HostSeg.ofOps _ _ _ _ _ bufs hostOps0 ops0_sub (List.forall_iff_forall_mem.mp hostOps0_fresh) (V₀ m) (Along m)
/-- The result is widened. -/
def seg2 : ℍ := Pipeline.HostSeg.ofOps _ _ _ _ _ bufs hostOps1 ops1_sub (List.forall_iff_forall_mem.mp hostOps1_fresh) (V₂ m) Left

/-- A device owes only barrier and receive cells, all above the window's. -/
theorem owed_above (c : Dev nD) (t : Fin ((Pipeline.pin (pcfgs (F := F)) adm 0).N + 1)) (g : GSem nD τ sig) (i : Unit)
    (h : 0 < (pdats m 0 c).owed t g i) : i ∈ L g ∧ (0 : ℕ) < lv g i := by
  rw [show (pdats m 0 c).owed t = if t.val = 0 then owed c else 0 from rfl] at h
  split at h
  swap; · exact absurd h (Nat.lt_irrefl 0)
  unfold owed at h
  rw [Pi.add_apply, Finsupp.add_apply] at h
  rcases Nat.add_pos_iff_pos_or_pos.mp h with h | h
  · obtain ⟨k, rfl⟩ := owing_pos h
    exact ⟨by rw [L_tc]; exact Finset.mem_singleton_self _, by rw [lv_recv]; decide⟩
  · rw [tallyAt_apply] at h
    split at h
    · next hg => rw [hg.1]; exact ⟨by rw [L_tc]; exact Finset.mem_singleton_self _, by rw [lv_bar]; decide⟩
    · exact absurd h (Nat.lt_irrefl 0)

theorem wts_kept (c : Dev nD) (n : ℕ) : (pdats m 0 c).arrAt 0 n = V₁ m c (Proc.devRef .tc main_v1) := (dat m c).arrAt_in 0 rfl n

set_option backward.isDefEq.respectTransparency.types false in
/-- The kernel. -/
def seg1 : Pipeline.RegionSeg (pcfgs (F := F)) adm (pdats m) () defs₀ 𝒱₀ L lv 0 :=
  Pipeline.RegionSeg.ofTalk (pcfgs (F := F)) adm (pdats m) () defs₀ 𝒱₀ L lv 0 osem osem_facts near sides near_sub launch0.toP rfl
    (fun c => (body_obligation m c).loose) (fun _ => 0) owed (fun c => (owed_zero m c).trans (zero_add _).symm) (owed_last m)
    (fun _ => rfl) (fun _ w => by rw [Subsingleton.elim w (0 : Fin 1)]; rfl)
    (V₁ m) (V₂ m)
    (fun c b hb => Function.update_of_ne (fun h => by rw [h] at hb; exact absurd hb (by decide)) _ _)
    (Tk (args m)) Yk (Xk (args m)) Yk (open_all (args m))
    (fun c => BI.Entails.refl _) (fun c => BI.Entails.refl _)
    (fun c => by iintro H; imodintro; iexact H)
    (fun _ => 0)
    ⟨fun c w s => by rw [L_tc]; exact Finset.mem_singleton_self _,
      fun c w s => by
        obtain rfl : w = (0 : Fin 1) := Subsingleton.elim w 0
        obtain rfl : s = (0 : Fin 1) := Subsingleton.elim (α := Fin 1) s 0
        exact le_of_eq rfl,
      fun c t g i h => owed_above m c t g i h⟩
    (fun _ => iprop(emp))
    (fun c w => by rw [Subsingleton.elim w (0 : Fin 1)]; exact wts_kept m c 0)
    (fun c w => by rw [Subsingleton.elim w (0 : Fin 1)]; exact (wts_kept m c _).trans (V₂_of_ne m c (by decide)).symm)

theorem seg1_pre (c : Dev nD) : iprop(StableHlo.held (c : Thread nD τ) bufs (V₁ m c) ∗ Along m c) ⊢ (seg1 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) sides (V₁ m c) ∗ emp) ∗ Tk (args m) c ∗ ∃ Wd, owes (c : Thread nD τ) (0 + owed c) Wd)
  rw [bufs_split, zero_add]
  unfold Along
  iintro ⟨⟨Ha, Hs⟩, HT, Hp, HO⟩
  isplitl [Ha]; · iexact Ha
  isplitl [Hp]; · iexact Hp
  isplitl [Hs]
  · isplitl [Hs]; · iexact Hs
    iempintro
  isplitl [HT] <;> iassumption

theorem seg1_post (c : Dev nD) : (seg1 m).post c ⊢ iprop(StableHlo.held (c : Thread nD τ) bufs (V₂ m c) ∗ Left c) := by
  show iprop(StableHlo.held (c.tc : Thread nD τ) (Pipeline.arrRefs (τ := τ) (pcfgs (F := F) 0).spec) (V₂ m c) ∗ (∃ r, prngReg c r)
    ∗ (StableHlo.held (c.tc : Thread nD τ) sides (V₂ m c) ∗ emp) ∗ Yk c ∗ ∃ Wd, owes (c : Thread nD τ) (0 : CellTallies nD τ sig Unit) Wd) ⊢ _
  rw [bufs_split]
  unfold Yk Left
  iintro ⟨Ha, -, ⟨Hs, -⟩, Hb, HO⟩
  isplitl [Ha Hs]; · isplitl [Ha] <;> iassumption
  isplitl [Hb] <;> iassumption

def segs : List (Pipeline.Seg (pcfgs (F := F)) adm (pdats m) () defs₀ 𝒱₀ L lv) := [.host (seg0 m), .region (seg1 m), .host (seg2 m)]

theorem main_eq (c : Dev nD) : main (F := F) c = Pipeline.Seg.run (segs m) :=
  main_segs adm (pdats m) () 𝒱₀ L lv (seg0 m) (seg2 m) (seg1 m) rfl rfl c

/-! ## The launch -/

/-- The launch element: the window's pipeline, and the talk. -/
def u₀ : UU :=
  (initOf (Pipeline.cells (Pipeline.pin (pcfgs (F := F)) adm) cellOf_inj) (Pipeline.launchToks (Pipeline.pin (pcfgs (F := F)) adm) cellOf_inj),
    (launchOf openCells shutCells toks, 1))

/-- The talk's part, whole; it is kept on device 0 until it is dealt out. -/
def Talk : sProp 𝕄 := BI.own (ER (launchOf openCells shutCells toks))
def G (c : Dev nD) : sProp 𝕄 := if c = 0 then Talk else iprop(emp)
theorem bigSep_G : bigSep Finset.univ (G (F := F)) = Talk := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem launch_split (x : UR sig nD τ) (y : UR sig nD τ) : (ownU ((x, (y, 1)) : UU) : sProp 𝕄) ⊢ iprop(BI.own (EP x) ∗ BI.own (ER y)) :=
  BI.own_op_elim ((uEmb (nD := nD) (sig := sig) (Ix := Unit) (Val := Elt F) (Name := ℕ) (U := UU) (Lvl := ℕ)).toEmb.op_of_mem
    (Prod.mk_mem_op (URA.mem_op_one x) (URA.mem_one_op (y, (1 : Counters)))))

/-- The talk's part and the barrier counters make the records and every device's share. -/
theorem talk_dealt (a : Args F) : iprop((bigSep Finset.univ fun c : Dev nD => semVal (barCell c) 0) ∗ Talk)
    ⊢ (|={Set.univ}=> iprop(records a ∗ bigSep Finset.univ Share) : sProp 𝕄) := by
  have hi (κ : GSem nD τ sig → ℕ) : (bigSep (openCells ∪ shutCells) (fun g => cellInv ER (Rd a) (κ g) g) : sProp 𝕄)
      ⊢ bigSep (openCells ∪ shutCells) (Inv a) := bigSep_mono fun g _ => by
    have h : (cellInv ER (Rd a) (κ g) g : sProp 𝕄) ⊢ Inv a g := by
      unfold Inv
      iintro H; iexists κ g; iexact H
    exact h
  rw [← bigSep_open (fun g => (semVal g 0 : sProp 𝕄))]
  unfold Talk records Share
  rw [bigSep_sep', bigSep_sep', ← bigSep_open (fun g => (atPos ER g 0 ∅ 0 : sProp 𝕄)), ← bigSep_shut (fun g => (openTok ER g : sProp 𝕄)), ← toks_dealt]
  iintro H
  imod (Rounds.fund_launch ER (Rd a) cells_disjoint (fun g _ h => h) toks) $$ H with ⟨%κ, -, Hinv, Hr, Hat, Hopen, Htok⟩
  imodintro
  isplitl [Hinv Hr]
  · isplitl [Hinv]; · iapply (hi κ) $$ Hinv
    iexact Hr
  isplitl [Hat]; · iexact Hat
  isplitl [Hopen] <;> iassumption

theorem unscoped_eq : ∀ sm : SemLoc sig, sm.isScoped .tc = false → sm = .reg barQ := by decide
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barQ} from by decide, BI.bigSep_singleton]

/-- How a device starts, -/
def T₀ (c : Dev nD) : sProp 𝕄 := iprop(StableHlo.held (c : Thread nD τ) bufs (V₀ m c) ∗ Along m c)
/-- and how it ends. -/
def Tₙ (c : Dev nD) : sProp 𝕄 := iprop(StableHlo.held (c : Thread nD τ) bufs (V₃ m c) ∗ semVal (barCell c) 0)

/-- What a device has at launch that is not of the talk's state. -/
def Own (c : Dev nD) : sProp 𝕄 :=
  iprop(StableHlo.held (c : Thread nD τ) bufs (V₀ m c) ∗ Credits c ∗ (∃ r, prngReg c r) ∗ owes (c : Thread nD τ) (owed c) ∅)

theorem start_intro (c : Dev nD) : iprop(records (args m) ∗ (Share c ∗ Own m c)) ⊢ T₀ m c := by
  unfold Own T₀ Along
  iintro ⟨HR, Hs, Hh, Hc, Hp, HO⟩
  isplitl [Hh]; · iexact Hh
  isplitl [HR Hs Hc]
  · iapply (talk_intro (args m) c)
    isplitl [HR]; · iexact HR
    isplitl [Hs] <;> iassumption
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (owed c) ∅ ∗ Pipeline.launchCred owed c ∗ prngReg c (ρ c) ∗ G c)) ∗ levAts L lv)
      ⊢ (|={Set.univ}=> bigSep Finset.univ (T₀ m) : sProp 𝕄) := by
  have hone (c : Dev nD) : iprop(unscopedBufs c (fun b => m ((c : Thread nD τ).loc b)) ∗ unscopedSems0 c
        ∗ owes (c : Thread nD τ) (owed c) ∅ ∗ Pipeline.launchCred owed c ∗ prngReg c (ρ c) ∗ G c)
      ⊢ (iprop(Own m c ∗ (semVal (barCell c) 0 ∗ G c)) : sProp 𝕄) := by
    rw [show unscopedBufs c (fun b => m ((c : Thread nD τ).loc b)) = StableHlo.held (c : Thread nD τ) bufs (V₀ m c) from unscopedBufs_held c (V₀ m c),
      unscopedSems_eq]
    unfold Own
    iintro ⟨Hh, Hb, HO, Hc, Hp, HG⟩
    isplitr [Hb HG]
    · isplitl [Hh]; · iexact Hh
      isplitl [Hc]; · iapply (credits_of_launch c) $$ Hc
      isplitl [Hp]; · iexists (ρ c); iexact Hp
      iexact HO
    isplitl [Hb] <;> iassumption
  have hall : (bigSep Finset.univ fun c : Dev nD => iprop(unscopedBufs c (fun b => m ((c : Thread nD τ).loc b)) ∗ unscopedSems0 c
        ∗ owes (c : Thread nD τ) (owed c) ∅ ∗ Pipeline.launchCred owed c ∗ prngReg c (ρ c) ∗ G c) : sProp 𝕄)
      ⊢ iprop(bigSep Finset.univ (Own m) ∗ ((bigSep Finset.univ fun c : Dev nD => semVal (barCell c) 0) ∗ Talk)) := by
    rw [← bigSep_G, ← bigSep_sep', ← bigSep_sep']
    exact bigSep_mono fun c _ => hone c
  have hend := bigSep_with_persistent (S := Finset.univ) (R := records (args m)) (Ψ := T₀ m) fun c _ => start_intro m c
  rw [bigSep_sep'] at hend
  iintro ⟨H, -⟩
  ihave H := hall $$ H
  icases H with ⟨HO, HT⟩
  imod (talk_dealt (args m)) $$ HT with ⟨HR, HS⟩
  imodintro
  iapply hend
  isplitl [HR]; · iexact HR
  isplitl [HS] <;> iassumption

/-! ## The run -/

theorem end_eq (c : Dev nD) (W : Valuation τ sig (Elt F)) : (StableHlo.held (c : Thread nD τ) bufs W : sProp 𝕄)
    = iprop(((c : Thread nD τ).loc main_arg0 ↦{fullShare} W (Proc.devRef .tc main_arg0))
      ∗ ((c : Thread nD τ).loc main_arg1 ↦{fullShare} W (Proc.devRef .tc main_arg1))
      ∗ ((c : Thread nD τ).loc main_v3 ↦{fullShare} W (Proc.devRef .tc main_v3))
      ∗ ((c : Thread nD τ).loc main_v1 ↦{fullShare} W (Proc.devRef .tc main_v1))
      ∗ ((c : Thread nD τ).loc main_v2 ↦{fullShare} W (Proc.devRef .tc main_v2))) := by
  unfold StableHlo.held
  rw [bigSep_eq_bigSepL_of_eq [Proc.devRef .tc main_arg0, Proc.devRef .tc main_arg1, Proc.devRef .tc main_v3, Proc.devRef .tc main_v1,
    Proc.devRef .tc main_v2] (by decide) (by decide)]
  rfl

set_option backward.isDefEq.respectTransparency.types false in
/-- From any memory with zero counters, every weakly fair execution of @main on the eight devices terminates, and at every final
    state each device's result is the widened `out` of the launch's arguments, its arguments are as launched, and every
    semaphore's counter is zero. -/
theorem run_main : θ_run (defs (F := F)) (onTc (τ := τ) (main (F := F))) ⟨m, fun _ => 0, ρ⟩
    (fun r => (∀ c : Dev nD, r.2.mem ((c.tc : Thread nD τ).loc main_v3) = (extf .f32 (out c (args m)) bitsLt_bf16_f32 : FVec F S4x512x4096 .f32)
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owed) (hL := L_of_ne) (G := G) (u₀ := u₀ (F := F))
    (hu₀ := by
      unfold u₀
      rw [bigSep_G]
      iintro Hu
      imodintro
      iapply (launch_split _ _) $$ Hu)
    (T₀ := T₀ m) (Tₙ := Tₙ m)
    (hch := by
      refine ⟨fun c => .rfl, fun c => seg1_pre m c, fun c => seg1_post m c, fun c => ?_⟩
      show iprop(StableHlo.held (c : Thread nD τ) bufs (V₃ m c) ∗ Left c) ⊢ iprop(Tₙ m c ∗ ∃ W, owes (c : Thread nD τ) (0 : CellTallies nD τ sig Unit) W)
      unfold Left Tₙ
      iintro ⟨Hh, Hb, HO⟩
      isplitr [HO]
      · isplitl [Hh] <;> iassumption
      · iexact HO)
    (hinit := init m ρ)
    (QY := fun c s => (s.mem ((c.tc : Thread nD τ).loc main_v3) = V₃ m c (Proc.devRef .tc main_v3)
        ∧ s.mem ((c.tc : Thread nD τ).loc main_arg0) = V₃ m c (Proc.devRef .tc main_arg0)
        ∧ s.mem ((c.tc : Thread nD τ).loc main_arg1) = V₃ m c (Proc.devRef .tc main_arg1)) ∧ s.sem (barCell c) = 0)
    (hfin := fun c s' => by
      unfold Tₙ; rw [end_eq]
      iintro ⟨⟨⟨H0, H1, H3, -, -⟩, Hb⟩, HSI⟩
      icombine HSI H0 gives %h0
      icombine HSI H1 gives %h1
      icombine HSI H3 gives %h3
      icombine HSI Hb gives %hb
      imodintro
      isplitr
      · ipureintro
        exact ⟨⟨Buf.eq_of_forall_mem_univ h3, Buf.eq_of_forall_mem_univ h0, Buf.eq_of_forall_mem_univ h1⟩, by simpa using hb⟩
      iexact HSI)
    (hQ := fun s h hs => ⟨fun c => by
        obtain ⟨⟨h3, h0, h1⟩, -⟩ := h c
        rw [V₃_out] at h3
        rw [V₃_of_ne m c (by decide), V₂_of_ne m c (by decide), V₁_of_ne m c (by decide)] at h0 h1
        exact ⟨h3, h0, h1⟩,
      sem_eq_zero hs fun c sm hsm => by
        obtain rfl := unscoped_eq sm hsm
        exact (h c).2⟩)

end Cert.KernelIdeal.Hand

end
-- ==== Proof.Value.lean ====
/- What the kernel computes over the ideal values, and that it is the reference's product: both sum over the contracted
   coordinate, the kernel half by half, one half on each device of a pair. -/
module

public import proofs.«01_k».proof.Proof.Region
public import proofs.«01_k».proof.Proof.Gen.ReferenceIdeal
public import Idealize.ShloMosaic.Lib.KernelVsHost
public import Idealize.ShloMosaic.Lib.MatmulPlain
public import Idealize.ShloMosaic.Lib.Layout

@[expose] public section

noncomputable section

namespace Cert.KernelIdeal.Hand

open Idealize.ShloMosaic Idealize.ShloMosaic.TcCoe Idealize.ShloMosaic.ValueIdx Idealize.SL.Sem
open Cert.KernelIdeal Cert.KernelIdeal.Gen

/-! ## The reference's product -/

/-- The whole activations and the whole weights. -/
abbrev Xs : Shape := ⟨4, ![4, 1024, 32, 128]⟩
abbrev Ws : Shape := ⟨2, ![4096, 4096]⟩

variable (X : FVec Ideal Xs .f32) (W : FVec Ideal Ws .f32)

/-- One product of the sum that entry `(b, s, n)` is: coordinate `k` is element `k % 128` of head `k / 128`. -/
def term (b : Fin 4) (s : Fin 1024) (n : Fin 4096) (k : Fin 4096) : Ideal .f32 :=
  X (ix4 b s (⟨k.val / 128, by omega⟩ : Fin 32) (⟨k.val % 128, by omega⟩ : Fin 128)) * W (ix2 k n)

/-- The sum over one half of the coordinates. -/
def half (h : Fin 2) (b : Fin 4) (s : Fin 1024) (n : Fin 4096) : Ideal .f32 :=
  ∑ q : Fin 2048, term X W b s n ⟨2048 * h.val + q.val, by omega⟩

/-- The whole sum is its two halves. -/
theorem sum_term (b : Fin 4) (s : Fin 1024) (n : Fin 4096) :
    ∑ k : Fin 4096, term X W b s n k = half X W 0 b s n + half X W 1 b s n := by
  refine (Fin.sum_univ_add (a := 2048) (b := 2048) (term X W b s n)).trans ?_
  refine congrArg₂ (· + ·) (Finset.sum_congr rfl fun q _ => congrArg _ (Fin.ext ?_)) (Finset.sum_congr rfl fun q _ => congrArg _ (Fin.ext ?_))
  · show q.val = 2048 * 0 + q.val; omega
  · show 2048 + q.val = 2048 * 1 + q.val; omega

/-- A coordinate of the flattened heads is a head and an element of it. -/
theorem split_heads {α : Type} {h n : ℕ} (hn : n = h * 128)
    (e : (⟨3, ![4, 1024, n]⟩ : Shape).numel = (⟨4, ![4, 1024, h, 128]⟩ : Shape).numel)
    (x : (⟨4, ![4, 1024, h, 128]⟩ : Shape).Idx → α) (j : (⟨3, ![4, 1024, n]⟩ : Shape).Idx)
    (b : Fin 4) (s : Fin 1024) (q : Fin n) (h0 : (j 0).val = b.val) (h1 : (j 1).val = s.val) (h2 : (j 2).val = q.val) :
    x (Shape.reshapeEquiv e j)
      = x (ix4 b s (⟨q.val / 128, by have := q.isLt; omega⟩ : Fin h) (⟨q.val % 128, Nat.mod_lt _ (by decide)⟩ : Fin 128)) := by
  subst hn
  refine congrArg x (Shape.reshapeEquiv_eq_of_rowMajor e ?_)
  rw [Shape.rowMajor_val_four, Shape.rowMajor_val_three, h0, h1, h2]
  show ((b.val * 1024 + s.val) * h + q.val / 128) * 128 + q.val % 128 = (b.val * 1024 + s.val) * (h * 128) + q.val
  rw [Nat.add_mul, Nat.mul_assoc]
  generalize (b.val * 1024 + s.val) * (h * 128) = z
  omega

/-- The reference, read at an entry. -/
theorem ref_apply (hc : Xs.ShapeCasts Cert.ReferenceIdeal.S4x1024x4096) (b : Fin 4) (s : Fin 1024) (n : Fin 4096) :
    Host.dotGeneral Cert.ReferenceIdeal.dot_S4x1024x4096_S4096x4096_S4x1024x4096_2_0_01_1_n_n none
        (shapeCast Cert.ReferenceIdeal.S4x1024x4096 X hc) W (ix3 b s n)
      = ∑ k : Fin 4096, term X W b s n k := by
  show FloatOps.dotGeneral _ none _ _ _ (ix3 b s n) = _
  rw [Ideal.dotGeneral_apply, ← Equiv.sum_comp (contrEquiv1
    Cert.ReferenceIdeal.dot_S4x1024x4096_S4096x4096_S4x1024x4096_2_0_01_1_n_n 4096 rfl rfl).symm]
  refine Finset.sum_congr rfl fun k _ => ?_
  have hk := contrEquiv1_symm_val Cert.ReferenceIdeal.dot_S4x1024x4096_S4096x4096_S4x1024x4096_2_0_01_1_n_n 4096 rfl rfl k
  refine congrArg₂ (· * ·) ?_ (congrArg W ?_)
  · exact split_heads (h := 32) (n := 4096) rfl hc.symm X _ b s k rfl rfl hk
  · funext d; apply Fin.ext
    match d with
    | ⟨0, _⟩ => exact hk
    | ⟨1, _⟩ => rfl

/-! ## The kernel's products -/

/-- Which half of the coordinates, and of the rows, is device `c`'s. -/
def side (c : Dev nD) : Fin 2 := ⟨c.val / 4, by have : c.val < 8 := c.isLt; omega⟩

theorem side_pr : ∀ c : Dev nD, side (pr c) = 1 - side c := by decide
theorem side_pr_sub : ∀ c : Dev nD, 1 - side (pr c) = side c := by decide

/-- A device's activations are the heads of its half, -/
theorem act_block (c : Dev nD) (b : Fin 4) (s : Fin 1024) (h : Fin 16) (e : Fin 128) :
    Layout.blockN ⟨4, ![4, 1024, 16, 128]⟩ Xs (Layout.meshBlock [2, 2, 2] ![[], [], [0], []] c) X (by decide) (ix4 b s h e)
      = X (ix4 b s (⟨16 * (side c).val + h.val, by omega⟩ : Fin 32) e) := by
  have hc : c.val < 8 := c.isLt
  refine congrArg X (funext fun d => Fin.ext ?_)
  rw [Layout.TilesN.idx_val]
  match d with
  | ⟨0, _⟩ => show 0 * 4 + b.val = b.val; omega
  | ⟨1, _⟩ => show 0 * 1024 + s.val = s.val; omega
  | ⟨2, _⟩ => show (c.val / 4 % 2 * 1 + 0) * 16 + h.val = 16 * (c.val / 4) + h.val; omega
  | ⟨3, _⟩ => show 0 * 128 + e.val = e.val; omega

/-- its weights the rows of its half, -/
theorem wts_block (c : Dev nD) (q : Fin 2048) (n : Fin 4096) :
    Layout.blockN ⟨2, ![2048, 4096]⟩ Ws (Layout.meshBlock [2, 2, 2] ![[0], []] c) W (by decide) (ix2 q n)
      = W (ix2 (⟨2048 * (side c).val + q.val, by omega⟩ : Fin 4096) n) := by
  have hc : c.val < 8 := c.isLt
  refine congrArg W (funext fun d => Fin.ext ?_)
  rw [Layout.TilesN.idx_val]
  match d with
  | ⟨0, _⟩ => show (c.val / 4 % 2 * 1 + 0) * 2048 + q.val = 2048 * (c.val / 4) + q.val; omega
  | ⟨1, _⟩ => show 0 * 4096 + n.val = n.val; omega

/-- and its result the rows of its half. -/
theorem out_block (v : FVec Ideal ⟨3, ![4, 1024, 4096]⟩ .f32) (c : Dev nD) (b : Fin 4) (r : Fin 512) (n : Fin 4096) :
    Layout.blockN ⟨3, ![4, 512, 4096]⟩ ⟨3, ![4, 1024, 4096]⟩ (Layout.meshBlock [2, 2, 2] ![[], [0], []] c) v (by decide) (ix3 b r n)
      = v (ix3 b (⟨512 * (side c).val + r.val, by omega⟩ : Fin 1024) n) := by
  have hc : c.val < 8 := c.isLt
  refine congrArg v (funext fun d => Fin.ext ?_)
  rw [Layout.TilesN.idx_val]
  match d with
  | ⟨0, _⟩ => show 0 * 4 + b.val = b.val; omega
  | ⟨1, _⟩ => show (c.val / 4 % 2 * 1 + 0) * 512 + r.val = 512 * (c.val / 4) + r.val; omega
  | ⟨2, _⟩ => show 0 * 4096 + n.val = n.val; omega

/-- Where the first eight chunks start: in the rows of the other half, -/
theorem offA_other : ∀ (c : Dev nD) (k : Fin 8), offA c (Fin.castLE (by decide) k) = ![k.val / 2, 512 * (1 - side c).val + 256 * (k.val % 2), 0] := by
  decide +kernel
/-- and the last eight: in those of the own. -/
theorem offA_own : ∀ (c : Dev nD) (k : Fin 8), offA c (Fin.natAdd 8 k) = ![k.val / 2, 512 * (side c).val + 256 * (k.val % 2), 0] := by
  decide +kernel

variable (a : Args Ideal)

/-- A chunk that starts at row `r` of batch `b`, read at an element. -/
theorem chunk_apply (c : Dev nD) (i : Fin 16) (b : Fin 4) (r : ℕ) (hr : r + 256 ≤ 1024) (ho : offA c i = ![b.val, r, 0])
    (p : Fin 256) (q : Fin 2048) :
    chunk a c i (ix2 p q) = (a.act c : FVec Ideal S4x1024x16x128 .f32)
      (ix4 b (⟨r + p.val, by omega⟩ : Fin 1024) (⟨q.val / 128, by omega⟩ : Fin 16) (⟨q.val % 128, by omega⟩ : Fin 128)) := by
  have h0 : offA c i 0 = b.val := congrFun ho 0
  have h1 : offA c i 1 = r := congrFun ho 1
  have h2 : offA c i 2 = 0 := congrFun ho 2
  refine split_heads (h := 16) (n := 2048) rfl reshapes_S4x1024x16x128_S4x1024x2048.1 (a.act c)
    ((Rect.unit (s := S4x1024x2048) (offA c i) S1x256x2048.size (offA_inb c i)).emb
      (Shape.reshapeEquiv squeezes_S1x256x2048_S256x2048.numel_eq (ix2 p q))) b _ q ?_ ?_ ?_
  all_goals rw [reshapeEquiv_ix2_1ab]
  · show offA c i 0 + 1 * 0 = b.val; omega
  · show offA c i 1 + 1 * p.val = r + p.val; omega
  · show offA c i 2 + 1 * q.val = q.val; omega

/-- A product of a chunk and the weights, read at an entry. -/
theorem mul_apply (o : Vec Ideal S256x2048 .f32) (w : Vec Ideal S2048x4096 .bf16) (p : Fin 256) (n : Fin 4096) :
    (mul o w (ix2 p n) : Ideal .f32) = ∑ q : Fin 2048, (o (ix2 p q) : Ideal .f32) * (w (ix2 q n) : Ideal .f32) := by
  unfold mul
  rw [shapeCast_self]
  refine (Ideal.matmul_plain_apply none _ _ _ p n).trans ?_
  show Ideal.ofBits .f32 0x00000000#32 + _ = _
  rw [Ideal.ofBits_zero_f32, zero_add]
  rfl

variable {X W a}

/-- The arguments of every device are its blocks of the whole arrays. -/
structure Cut (X : FVec Ideal Xs .f32) (W : FVec Ideal Ws .f32) (a : Args Ideal) : Prop where
  act : ∀ c, (a.act c : FVec Ideal S4x1024x16x128 .f32)
    = Layout.blockN ⟨4, ![4, 1024, 16, 128]⟩ Xs (Layout.meshBlock [2, 2, 2] ![[], [], [0], []] c) X (by decide)
  wts : ∀ c, (a.wts c : S2048x4096.Idx → Ideal .f32)
    = Layout.blockN ⟨2, ![2048, 4096]⟩ Ws (Layout.meshBlock [2, 2, 2] ![[0], []] c) W (by decide)

/-- Then a chunk's product is the sum over the device's half of the coordinates. -/
theorem mul_chunk (hcut : Cut X W a) (c : Dev nD) (i : Fin 16) (b : Fin 4) (r : ℕ) (hr : r + 256 ≤ 1024) (ho : offA c i = ![b.val, r, 0])
    (p : Fin 256) (n : Fin 4096) :
    (mul (chunk a c i) (a.wts c) (ix2 p n) : Ideal .f32) = half X W (side c) b (⟨r + p.val, by omega⟩ : Fin 1024) n := by
  rw [mul_apply]
  refine Finset.sum_congr rfl fun q _ => ?_
  rw [chunk_apply a c i b r hr ho p q, hcut.act c, act_block]
  refine congrArg₂ (· * ·) (congrArg X (funext fun d => Fin.ext ?_)) ((congrFun (hcut.wts c) (ix2 q n)).trans (wts_block W c q n))
  match d with
  | ⟨0, _⟩ => rfl
  | ⟨1, _⟩ => rfl
  | ⟨2, _⟩ => show 16 * (side c).val + q.val / 128 = (2048 * (side c).val + q.val) / 128; omega
  | ⟨3, _⟩ => show q.val % 128 = (2048 * (side c).val + q.val) % 128; omega

/-- The two halves, in either order. -/
theorem half_comm (c : Dev nD) (b : Fin 4) (s : Fin 1024) (n : Fin 4096) :
    half X W (side c) b s n + half X W (side (pr c)) b s n = half X W 0 b s n + half X W 1 b s n := by
  rw [side_pr]
  generalize side c = h
  match h with
  | 0 => rfl
  | 1 => exact add_comm _ _

/-- Block `k` of a device's result is, entry by entry, the sum over all the coordinates. -/
theorem result_apply (hcut : Cut X W a) (c : Dev nD) (k : Fin 8) (p : Fin 256) (n : Fin 4096) :
    (result a c k (ix2 p n) : Ideal .f32) = ∑ j : Fin 4096, term X W (⟨k.val / 2, by omega⟩ : Fin 4)
      (⟨512 * (side c).val + 256 * (k.val % 2) + p.val, by omega⟩ : Fin 1024) n j := by
  have ho := offA_other (pr c) k
  rw [side_pr_sub] at ho
  rw [sum_term, ← half_comm c]
  show (mul (chunk a c (Fin.natAdd 8 k)) (a.wts c) (ix2 p n) : Ideal .f32)
    + (mul (chunk a (pr c) (Fin.castLE (by decide) k)) (a.wts (pr c)) (ix2 p n) : Ideal .f32) = _
  rw [mul_chunk hcut c _ (⟨k.val / 2, by omega⟩ : Fin 4) _ (by omega) (offA_own c k) p n,
    mul_chunk hcut (pr c) _ (⟨k.val / 2, by omega⟩ : Fin 4) _ (by omega) ho p n]

/-- What a device ends with is its block of the reference's product. -/
theorem out_eq (hcut : Cut X W a) (hc : Xs.ShapeCasts Cert.ReferenceIdeal.S4x1024x4096) (c : Dev nD) :
    (extf .f32 (out c a) bitsLt_bf16_f32 : FVec Ideal S4x512x4096 .f32)
      = Layout.blockN ⟨3, ![4, 512, 4096]⟩ ⟨3, ![4, 1024, 4096]⟩ (Layout.meshBlock [2, 2, 2] ![[], [0], []] c)
          (Host.dotGeneral Cert.ReferenceIdeal.dot_S4x1024x4096_S4096x4096_S4x1024x4096_2_0_01_1_n_n none
            (shapeCast Cert.ReferenceIdeal.S4x1024x4096 X hc) W : FVec Ideal ⟨3, ![4, 1024, 4096]⟩ .f32) (by decide) := by
  funext i
  obtain ⟨b, r, n, rfl⟩ : ∃ (b : Fin 4) (r : Fin 512) (n : Fin 4096), i = ix3 b r n := ⟨i 0, i 1, i 2, eq_ix3 i⟩
  rw [out_block, ref_apply]
  refine (result_apply hcut c (blockOf (ix3 b r n)) (⟨r.val % 256, by omega⟩ : Fin 256) n).trans ?_
  have hb : (⟨(blockOf (ix3 b r n)).val / 2, by omega⟩ : Fin 4) = b := Fin.ext (by
    show (2 * b.val + r.val / 256) / 2 = b.val; omega)
  have hs : ∀ h, (⟨512 * (side c).val + 256 * ((blockOf (ix3 b r n)).val % 2) + r.val % 256, h⟩ : Fin 1024)
      = ⟨512 * (side c).val + r.val, by omega⟩ := fun h => Fin.ext (by
    show 512 * (side c).val + 256 * ((2 * b.val + r.val / 256) % 2) + r.val % 256 = 512 * (side c).val + r.val; omega)
  rw [hb, hs]

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as printed runs on the eight devices, leaves its arguments as they were and every counter at zero.
    Its text is that of the program read over any float values, whose run is carried over. -/
theorem frame_kernel : Cert.quiescent_Kernel := fun m ρ _ => by
  have h : θ_run (Cert.KernelIdeal.defs (F := Bits))
      (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
        ∧ r.2.sem = fun _ => 0) :=
    (θ_run Cert.KernelIdeal.defs _ _).mono (fun _ h => ⟨fun c => (h.1 c).2, h.2⟩)
      (Cert.KernelIdeal.Hand.run_main (F := Bits) m ρ)
  refine Eq.mp ?_ h
  sl_kernel_rfl

/-- The same program over the ideal values runs so too. -/
theorem frame_kernelIdeal : Cert.quiescent_KernelIdeal := fun m ρ _ =>
  (θ_run Cert.KernelIdeal.defs _ _).mono (fun _ h => ⟨fun c => (h.1 c).2, h.2⟩)
    (Cert.KernelIdeal.Hand.run_main (F := Ideal) m ρ)

/-- The reference runs, leaves its arguments as they were, and has no counters. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the ideal values each device of the kernel ends with its block of what the reference computes of the whole
    arrays. -/
theorem value : Cert.algebraic_KernelIdeal_ReferenceIdeal := fun m ρ m' ρ' _ hargs => by
  have hcut : Cert.KernelIdeal.Hand.Cut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (Cert.KernelIdeal.Hand.args m) :=
    ⟨fun c => (hargs c).1, fun c => (Cert.KernelIdeal.Hand.V₁_wts m c).trans (hargs c).2⟩
  refine ⟨_, ?_, (θ_run Cert.ReferenceIdeal.defs _ _).mono (fun r h => h 0) (Cert.ReferenceIdeal.Value.run (F := Ideal) m' ρ')⟩
  exact (θ_run Cert.KernelIdeal.defs _ _).mono
    (fun r h c => ⟨((h.1 c).1).trans (Cert.KernelIdeal.Hand.out_eq hcut _ c), (h.1 c).2⟩)
    (Cert.KernelIdeal.Hand.run_main (F := Ideal) m ρ)

/-- All that is claimed. -/
theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
